-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_premise [hPre_premise : Cert.Pre_premise.Facts] (m : (ℓ : Loc Cert.KernelIdeal.nD Cert.KernelIdeal.τ Cert.KernelIdeal.sig) → Buf (Elt Ideal) ℓ) : Prop :=
  ∀ c : Dev Cert.KernelIdeal.nD,
    (Cert.Pre_premise.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_premise.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_premise.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_premise.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_premise.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_premise.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_premise [hPre_premise : Cert.Pre_premise.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_premise.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_premise.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_premise.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_premise.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_premise.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_premise.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_premise [hKernelIdeal : Cert.KernelIdeal.Facts] [hPre_premise : Cert.Pre_premise.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_premise m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_premise [hReferenceIdeal : Cert.ReferenceIdeal.Facts] [hPre_premise : Cert.Pre_premise.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_premise m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_premise [hKernelIdeal : Cert.KernelIdeal.Facts] [hReferenceIdeal : Cert.ReferenceIdeal.Facts] [hPre_premise : Cert.Pre_premise.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_premise m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_premise : Cert.Pre_premise.Facts),
    quiescent_Kernel (hKernel := hKernel)
    ∧ quiescent_KernelIdeal (hKernelIdeal := hKernelIdeal)
    ∧ quiescent_KernelIdeal_pre_premise (hKernelIdeal := hKernelIdeal) (hPre_premise := hPre_premise)
    ∧ quiescent_ReferenceIdeal (hReferenceIdeal := hReferenceIdeal)
    ∧ quiescent_ReferenceIdeal_pre_premise (hReferenceIdeal := hReferenceIdeal) (hPre_premise := hPre_premise)
    ∧ preserves_Kernel_KernelIdeal
    ∧ algebraic_KernelIdeal_ReferenceIdeal_pre_premise (hKernelIdeal := hKernelIdeal) (hReferenceIdeal := hReferenceIdeal) (hPre_premise := hPre_premise)
-- ==== Pre_premise.lean ====
abbrev S1x2048x768 : Shape := ⟨3, ![1, 2048, 768]⟩
abbrev S1x2048 : Shape := ⟨2, ![1, 2048]⟩
abbrev S12x2048x2048 : Shape := ⟨3, ![12, 2048, 2048]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S_ : Shape := ⟨0, ![]⟩
abbrev S768x768x3 : Shape := ⟨3, ![768, 768, 3]⟩
abbrev S768x768x2 : Shape := ⟨3, ![768, 768, 2]⟩

class Facts : Prop where
  bcast_S_S1x2048x768 : S_.BroadcastsInDim S1x2048x768 (![] : Fin 0 → Fin S1x2048x768.rank)
  bcast_S_S12x2048x2048 : S_.BroadcastsInDim S12x2048x2048 (![] : Fin 0 → Fin S12x2048x2048.rank)
  shapeCasts_S768x2304_S768x768x3 : S768x2304.ShapeCasts S768x768x3
  slices_S768x768x3_S768x768x2_0_0_0 : S768x768x3.Slices ![0, 0, 0] S768x768x2
  bcast_S_S768x768x2 : S_.BroadcastsInDim S768x768x2 (![] : Fin 0 → Fin S768x768x2.rank)
  bcast_S_S2304 : S_.BroadcastsInDim S2304 (![] : Fin 0 → Fin S2304.rank)
  bcast_S_S768 : S_.BroadcastsInDim S768 (![] : Fin 0 → Fin S768.rank)

variable [Facts]

def fn {F : FTy → Type} [FloatOps F] (main_arg0 : FVec F S1x2048x768 .f32) (main_arg1 : IVec S1x2048 1) (main_arg2 : FVec F S12x2048x2048 .f32) (main_arg3 : FVec F S768x2304 .f32) (main_arg4 : FVec F S2304 .f32) (main_arg5 : FVec F S768x768 .f32) (main_arg6 : FVec F S768 .f32) : IVec S1x2048x768 1 × IVec S1x2048 1 × IVec S12x2048x2048 1 × IVec S768x768x2 1 × IVec S2304 1 × IVec S768 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : IVec S1x2048 1 := noti main_arg1
  let main_v4 : FVec F S12x2048x2048 .f32 := Host.absf main_arg2
  let main_cst_0 : FVec F S_ .f32 := constant S_ .f32 0x7F800000#32
  let main_v5 : FVec F S12x2048x2048 .f32 := broadcastInDim S12x2048x2048 ![] bcast_S_S12x2048x2048 main_cst_0
  let main_v6 : IVec S12x2048x2048 1 := cmpf .olt main_v4 main_v5
  let main_v7 : FVec F S768x768x3 .f32 := shapeCast S768x768x3 main_arg3 shapeCasts_S768x2304_S768x768x3
  let main_v8 : FVec F S768x768x2 .f32 := (extractStridedSlice S768x768x2 ![0, 0, 0] · slices_S768x768x3_S768x768x2_0_0_0) main_v7
  let main_v9 : FVec F S768x768x2 .f32 := Host.absf main_v8
  let main_cst_1 : FVec F S_ .f32 := constant S_ .f32 0x7F800000#32
  let main_v10 : FVec F S768x768x2 .f32 := broadcastInDim S768x768x2 ![] bcast_S_S768x768x2 main_cst_1
  let main_v11 : IVec S768x768x2 1 := cmpf .olt main_v9 main_v10
  let main_cst_2 : FVec F S_ .f32 := constant S_ .f32 0x00000000#32
  let main_v12 : FVec F S2304 .f32 := broadcastInDim S2304 ![] bcast_S_S2304 main_cst_2
  let main_v13 : IVec S2304 1 := cmpf .oeq main_arg4 main_v12
  let main_cst_3 : FVec F S_ .f32 := constant S_ .f32 0x00000000#32
  let main_v14 : FVec F S768 .f32 := broadcastInDim S768 ![] bcast_S_S768 main_cst_3
  let main_v15 : IVec S768 1 := cmpf .oeq main_arg6 main_v14
  (main_v2, main_v3, main_v6, main_v11, main_v13, main_v15)
-- ==== Kernel.lean ====
abbrev S1x2048x768 : Shape := ⟨3, ![1, 2048, 768]⟩
abbrev S1x2048 : Shape := ⟨2, ![1, 2048]⟩
abbrev S12x2048x2048 : Shape := ⟨3, ![12, 2048, 2048]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S192x2048 : Shape := ⟨2, ![192, 2048]⟩
abbrev S16x2048 : Shape := ⟨2, ![16, 2048]⟩
abbrev S192 : Shape := ⟨1, ![192]⟩
abbrev S192x1 : Shape := ⟨2, ![192, 1]⟩
abbrev S12x1x16x2048 : Shape := ⟨4, ![12, 1, 16, 2048]⟩
abbrev S2048x768 : Shape := ⟨2, ![2048, 768]⟩
abbrev S768x12x64x3 : Shape := ⟨4, ![768, 12, 64, 3]⟩
abbrev S768x3x12x64 : Shape := ⟨4, ![768, 3, 12, 64]⟩
abbrev S12x2048x64 : Shape := ⟨3, ![12, 2048, 64]⟩
abbrev S256x768 : Shape := ⟨2, ![256, 768]⟩
abbrev S12x256x64 : Shape := ⟨3, ![12, 256, 64]⟩
abbrev S256x2304 : Shape := ⟨2, ![256, 2304]⟩
abbrev S256x64 : Shape := ⟨2, ![256, 64]⟩
abbrev S1x256x64 : Shape := ⟨3, ![1, 256, 64]⟩
abbrev S1x2048x64 : Shape := ⟨3, ![1, 2048, 64]⟩
abbrev S1x1024x64 : Shape := ⟨3, ![1, 1024, 64]⟩
abbrev S1x2048x1024 : Shape := ⟨3, ![1, 2048, 1024]⟩
abbrev S1x1x16x1024 : Shape := ⟨4, ![1, 1, 16, 1024]⟩
abbrev S2048x64 : Shape := ⟨2, ![2048, 64]⟩
abbrev S1024x64 : Shape := ⟨2, ![1024, 64]⟩
abbrev S2048x1024 : Shape := ⟨2, ![2048, 1024]⟩
abbrev S16x128x1024 : Shape := ⟨3, ![16, 128, 1024]⟩
abbrev S16x1024 : Shape := ⟨2, ![16, 1024]⟩
abbrev S16x1x1024 : Shape := ⟨3, ![16, 1, 1024]⟩
abbrev S2048 : Shape := ⟨1, ![2048]⟩
abbrev S2048x1 : Shape := ⟨2, ![2048, 1]⟩
abbrev S4x256x64 : Shape := ⟨3, ![4, 256, 64]⟩
abbrev S256x256 : Shape := ⟨2, ![256, 256]⟩

abbrev nBuf : Space → Nat
  | .hbm => 20
  | .vmem => 37
  | .smem => 0
  | _ => 0

abbrev bufTy : (tb : Table) → Fin (tcTables nBuf tb) → BufTy
  | .hbm, ⟨0, _⟩ => ⟨S1x2048x768, .f32⟩
  | .hbm, ⟨1, _⟩ => ⟨S1x2048, .i1⟩
  | .hbm, ⟨2, _⟩ => ⟨S12x2048x2048, .f32⟩
  | .hbm, ⟨3, _⟩ => ⟨S768x2304, .f32⟩
  | .hbm, ⟨4, _⟩ => ⟨S2304, .f32⟩
  | .hbm, ⟨5, _⟩ => ⟨S768x768, .f32⟩
  | .hbm, ⟨6, _⟩ => ⟨S768, .f32⟩
  | .hbm, ⟨7, _⟩ => ⟨S192x2048, .f32⟩
  | .hbm, ⟨8, _⟩ => ⟨S12x1x16x2048, .f32⟩
  | .hbm, ⟨9, _⟩ => ⟨S2048x768, .f32⟩
  | .hbm, ⟨10, _⟩ => ⟨S768x12x64x3, .f32⟩
  | .hbm, ⟨11, _⟩ => ⟨S768x3x12x64, .f32⟩
  | .hbm, ⟨12, _⟩ => ⟨S768x2304, .f32⟩
  | .hbm, ⟨13, _⟩ => ⟨S12x2048x64, .f32⟩
  | .hbm, ⟨14, _⟩ => ⟨S12x2048x64, .f32⟩
  | .hbm, ⟨15, _⟩ => ⟨S12x2048x64, .bf16⟩
  | .hbm, ⟨16, _⟩ => ⟨S12x2048x64, .bf16⟩
  | .hbm, ⟨17, _⟩ => ⟨S768x768, .bf16⟩
  | .hbm, ⟨18, _⟩ => ⟨S2048x768, .f32⟩
  | .hbm, ⟨19, _⟩ => ⟨S1x2048x768, .f32⟩
  | .local _ .vmem, ⟨0, _⟩ => ⟨S192x2048, .f32⟩
  | .local _ .vmem, ⟨1, _⟩ => ⟨S192x2048, .f32⟩
  | .local _ .vmem, ⟨2, _⟩ => ⟨S256x768, .f32⟩
  | .local _ .vmem, ⟨3, _⟩ => ⟨S256x768, .f32⟩
  | .local _ .vmem, ⟨4, _⟩ => ⟨S768x2304, .f32⟩
  | .local _ .vmem, ⟨5, _⟩ => ⟨S12x256x64, .f32⟩
  | .local _ .vmem, ⟨6, _⟩ => ⟨S12x256x64, .f32⟩
  | .local _ .vmem, ⟨7, _⟩ => ⟨S12x256x64, .f32⟩
  | .local _ .vmem, ⟨8, _⟩ => ⟨S12x256x64, .f32⟩
  | .local _ .vmem, ⟨9, _⟩ => ⟨S12x256x64, .bf16⟩
  | .local _ .vmem, ⟨10, _⟩ => ⟨S12x256x64, .bf16⟩
  | .local _ .vmem, ⟨11, _⟩ => ⟨S1x2048x64, .f32⟩
  | .local _ .vmem, ⟨12, _⟩ => ⟨S1x2048x64, .f32⟩
  | .local _ .vmem, ⟨13, _⟩ => ⟨S1x1024x64, .f32⟩
  | .local _ .vmem, ⟨14, _⟩ => ⟨S1x1024x64, .f32⟩
  | .local _ .vmem, ⟨15, _⟩ => ⟨S1x1024x64, .f32⟩
  | .local _ .vmem, ⟨16, _⟩ => ⟨S1x1024x64, .f32⟩
  | .local _ .vmem, ⟨17, _⟩ => ⟨S1x1024x64, .bf16⟩
  | .local _ .vmem, ⟨18, _⟩ => ⟨S1x1024x64, .bf16⟩
  | .local _ .vmem, ⟨19, _⟩ => ⟨S1x1024x64, .bf16⟩
  | .local _ .vmem, ⟨20, _⟩ => ⟨S1x1024x64, .bf16⟩
  | .local _ .vmem, ⟨21, _⟩ => ⟨S1x2048x1024, .f32⟩
  | .local _ .vmem, ⟨22, _⟩ => ⟨S1x2048x1024, .f32⟩
  | .local _ .vmem, ⟨23, _⟩ => ⟨S1x2048x1024, .f32⟩
  | .local _ .vmem, ⟨24, _⟩ => ⟨S1x2048x1024, .f32⟩
  | .local _ .vmem, ⟨25, _⟩ => ⟨S1x1x16x1024, .f32⟩
  | .local _ .vmem, ⟨26, _⟩ => ⟨S1x1x16x1024, .f32⟩
  | .local _ .vmem, ⟨27, _⟩ => ⟨S1x1x16x1024, .f32⟩
  | .local _ .vmem, ⟨28, _⟩ => ⟨S1x1x16x1024, .f32⟩
  | .local _ .vmem, ⟨29, _⟩ => ⟨S1x2048x64, .bf16⟩
  | .local _ .vmem, ⟨30, _⟩ => ⟨S1x2048x64, .bf16⟩
  | .local _ .vmem, ⟨31, _⟩ => ⟨S4x256x64, .bf16⟩
  | .local _ .vmem, ⟨32, _⟩ => ⟨S4x256x64, .bf16⟩
  | .local _ .vmem, ⟨33, _⟩ => ⟨S256x768, .bf16⟩
  | .local _ .vmem, ⟨34, _⟩ => ⟨S256x768, .bf16⟩
  | .local _ .vmem, ⟨35, _⟩ => ⟨S256x768, .f32⟩
  | .local _ .vmem, ⟨36, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_scratch0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc2_stg9_0 : Ref sig .tc := ⟨.vmem, 29, rfl⟩
abbrev cc2_stg9_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc0_sem0_0 : DmaSem sig := 0
abbrev cc1_sem0_0 : DmaSem sig := 1
abbrev cc1_sem0_1 : DmaSem sig := 2
abbrev cc1_sem1_0 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc2_sem7_0 : DmaSem sig := 24
abbrev cc2_sem7_1 : DmaSem sig := 25
abbrev cc2_sem8_0 : DmaSem sig := 26
abbrev cc2_sem8_1 : DmaSem sig := 27
abbrev cc2_sem9_0 : DmaSem sig := 28
abbrev cc2_sem9_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c12_i32 : BitVec 32 := 12#32
  let v0 : BitVec 32 := Scalar.addi c0_i32 c12_i32
  let c1_i32 : BitVec 32 := 1#32
  ⟨c0_i32, v0, c1_i32⟩
def k0_off1 (k0_t1 : Fin k0_t1_loop.trips) : Fin 2 → Nat :=
  let c16_i32 : BitVec 32 := 16#32
  let c0_i32 : BitVec 32 := 0#32
  let c1_i32 : BitVec 32 := 1#32
  let arg2 : BitVec 32 := Scf.iv c0_i32 c1_i32 k0_t1
  let v14 : BitVec 32 := Scalar.muli c16_i32 arg2
  let v252 : Index := Scalar.indexCast v14
  let c0_62 : Index := 0#32
  ![v252.toNat, 0]
@[reducible] def k0_t2_loop : Scf.Loop 32 :=
  let c0_i32_3 : BitVec 32 := 0#32
  let c44_i32 : BitVec 32 := 44#32
  let v6 : BitVec 32 := Scalar.addi c0_i32_3 c44_i32
  let c1_i32_4 : BitVec 32 := 1#32
  ⟨c0_i32_3, v6, c1_i32_4⟩
abbrev stage0_0 : Fin 1 → Memref sig .tc .vmem S192x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x2304 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S12x256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S12x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S12x256x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![12, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc2_transform_7 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_8 (i : grid2.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, arg1.toNat, c0_i32.toNat, c1_i32.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1024x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x2048x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x2048x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x1x16x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x1x16x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x2048x64 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![8, 3], ![false, false]⟩

def k3_cond1 (i : grid3.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_10 : BitVec 32 := 0#32
  let v14 : BitVec 1 := Scalar.cmpi .ne v13 c0_i32_10
  v14

def k3_cond2 (i : grid3.Coords) : BitVec 1 :=
  let arg1 : BitVec 32 := BitVec.ofNat 32 (i 1).val
  let c0_i32_11 : BitVec 32 := 0#32
  let v15 : BitVec 1 := Scalar.cmpi .sgt arg1 c0_i32_11
  let v16 : BitVec 32 := Scalar.extui v15
  let c0_i32_12 : BitVec 32 := 0#32
  let v17 : BitVec 1 := Scalar.cmpi .ne v16 c0_i32_12
  v17

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4x256x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== KernelIdeal.lean ====
variable {F : FTy → Type} [FloatOps F] [Named F]
def κ : String → Option EReal := fun
  | "mask" => some ⊥
  | _ => none
-- ==== ReferenceIdeal.lean ====
abbrev S1x2048x768 : Shape := ⟨3, ![1, 2048, 768]⟩
abbrev S1x2048 : Shape := ⟨2, ![1, 2048]⟩
abbrev S12x2048x2048 : Shape := ⟨3, ![12, 2048, 2048]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S1x2048x2304 : Shape := ⟨3, ![1, 2048, 2304]⟩
abbrev S1x1x2304 : Shape := ⟨3, ![1, 1, 2304]⟩
abbrev S1x2048x12x64x3 : Shape := ⟨5, ![1, 2048, 12, 64, 3]⟩
abbrev S3x1x12x2048x64 : Shape := ⟨5, ![3, 1, 12, 2048, 64]⟩
abbrev S1x1x12x2048x64 : Shape := ⟨5, ![1, 1, 12, 2048, 64]⟩
abbrev S1x12x2048x64 : Shape := ⟨4, ![1, 12, 2048, 64]⟩
abbrev S1x12x16x128x64 : Shape := ⟨5, ![1, 12, 16, 128, 64]⟩
abbrev S1x1x16x128 : Shape := ⟨4, ![1, 1, 16, 128]⟩
abbrev S1x12x16x128 : Shape := ⟨4, ![1, 12, 16, 128]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S16x16x128 : Shape := ⟨3, ![16, 16, 128]⟩
abbrev S16x2048 : Shape := ⟨2, ![16, 2048]⟩
abbrev S1x1x16x2048 : Shape := ⟨4, ![1, 1, 16, 2048]⟩
abbrev S393216 : Shape := ⟨1, ![393216]⟩
abbrev S1x12x16x2048 : Shape := ⟨4, ![1, 12, 16, 2048]⟩
abbrev S_ : Shape := ⟨0, ![]⟩
abbrev S1x1x1x2048 : Shape := ⟨4, ![1, 1, 1, 2048]⟩
abbrev S1x12x16x256 : Shape := ⟨4, ![1, 12, 16, 256]⟩
abbrev S1x12x4096x1 : Shape := ⟨4, ![1, 12, 4096, 1]⟩
abbrev S1x12x4096x64 : Shape := ⟨4, ![1, 12, 4096, 64]⟩
abbrev S12x4096x64x1 : Shape := ⟨4, ![12, 4096, 64, 1]⟩
abbrev S1x12x16x256x64 : Shape := ⟨5, ![1, 12, 16, 256, 64]⟩
abbrev S1x49152 : Shape := ⟨2, ![1, 49152]⟩
abbrev S49152x1 : Shape := ⟨2, ![49152, 1]⟩
abbrev S1x12x16x128x256 : Shape := ⟨5, ![1, 12, 16, 128, 256]⟩
abbrev S1x12x16x128x2048 : Shape := ⟨5, ![1, 12, 16, 128, 2048]⟩
abbrev S1x12x16x1x256 : Shape := ⟨5, ![1, 12, 16, 1, 256]⟩
abbrev S12x16x128x256x1 : Shape := ⟨5, ![12, 16, 128, 256, 1]⟩
abbrev S1x12x16x128x1 : Shape := ⟨5, ![1, 12, 16, 128, 1]⟩
abbrev S1x16x128x12x64 : Shape := ⟨5, ![1, 16, 128, 12, 64]⟩
abbrev S1x1x768 : Shape := ⟨3, ![1, 1, 768]⟩

abbrev nBuf : Space → Nat
  | .hbm => 364
  | .vmem => 0
  | .smem => 0
  | _ => 0

abbrev hbmTy0_0 (i : Nat) : BufTy := match i % 128 with
  | 0 => ⟨S1x2048x768, .f32⟩
  | 1 => ⟨S1x2048, .i1⟩
  | 2 => ⟨S12x2048x2048, .f32⟩
  | 3 => ⟨S768x2304, .f32⟩
  | 4 => ⟨S2304, .f32⟩
  | 5 => ⟨S768x768, .f32⟩
  | 6 => ⟨S768, .f32⟩
  | 7 => ⟨S1x2048x2304, .f32⟩
  | 8 => ⟨S1x1x2304, .f32⟩
  | 9 => ⟨S1x2048x2304, .f32⟩
  | 10 => ⟨S1x2048x2304, .f32⟩
  | 11 => ⟨S1x2048x12x64x3, .f32⟩
  | 12 => ⟨S3x1x12x2048x64, .f32⟩
  | 13 => ⟨S1x1x12x2048x64, .f32⟩
  | 14 => ⟨S1x12x2048x64, .f32⟩
  | 15 => ⟨S1x12x16x128x64, .f32⟩
  | 16 => ⟨S1x1x16x128, .i1⟩
  | 17 => ⟨S1x12x16x128, .i1⟩
  | 18 => ⟨S16, .i32⟩
  | 19 => ⟨S1x16, .i32⟩
  | 20 => ⟨S16x1, .i32⟩
  | 21 => ⟨S16x16, .i32⟩
  | 22 => ⟨S16x16, .i32⟩
  | 23 => ⟨S16x16, .i32⟩
  | 24 => ⟨S16x16, .i32⟩
  | 25 => ⟨S16x16x128, .i32⟩
  | 26 => ⟨S16x2048, .i32⟩
  | 27 => ⟨S16x2048, .f32⟩
  | 28 => ⟨S1x1x16x2048, .f32⟩
  | 29 => ⟨S393216, .i32⟩
  | 30 => ⟨S1x12x16x2048, .i32⟩
  | 31 => ⟨S_, .i32⟩
  | 32 => ⟨S1x12x16x2048, .i32⟩
  | 33 => ⟨S_, .i32⟩
  | 34 => ⟨S1x12x16x2048, .i32⟩
  | 35 => ⟨S1x12x16x2048, .i32⟩
  | 36 => ⟨S_, .i32⟩
  | 37 => ⟨S1x12x16x2048, .i32⟩
  | 38 => ⟨S1x12x16x2048, .i32⟩
  | 39 => ⟨S1x12x16x2048, .i32⟩
  | 40 => ⟨S_, .i32⟩
  | 41 => ⟨S1x12x16x2048, .i32⟩
  | 42 => ⟨S1x12x16x2048, .i32⟩
  | 43 => ⟨S_, .i32⟩
  | 44 => ⟨S1x12x16x2048, .i32⟩
  | 45 => ⟨S1x12x16x2048, .i32⟩
  | 46 => ⟨S1x12x16x2048, .i32⟩
  | 47 => ⟨S1x12x16x2048, .i32⟩
  | 48 => ⟨S1x12x16x2048, .i32⟩
  | 49 => ⟨S_, .i32⟩
  | 50 => ⟨S1x12x16x2048, .i32⟩
  | 51 => ⟨S1x12x16x2048, .i32⟩
  | 52 => ⟨S_, .i32⟩
  | 53 => ⟨S1x12x16x2048, .i32⟩
  | 54 => ⟨S1x12x16x2048, .i32⟩
  | 55 => ⟨S1x12x16x2048, .i32⟩
  | 56 => ⟨S1x12x16x2048, .i32⟩
  | 57 => ⟨S1x12x16x2048, .i32⟩
  | 58 => ⟨S_, .i32⟩
  | 59 => ⟨S1x12x16x2048, .i32⟩
  | 60 => ⟨S1x12x16x2048, .i32⟩
  | 61 => ⟨S_, .i32⟩
  | 62 => ⟨S1x12x16x2048, .i32⟩
  | 63 => ⟨S1x12x16x2048, .i32⟩
  | 64 => ⟨S1x12x16x2048, .i32⟩
  | 65 => ⟨S1x12x16x2048, .i32⟩
  | 66 => ⟨S1x12x16x2048, .i32⟩
  | 67 => ⟨S_, .i32⟩
  | 68 => ⟨S1x12x16x2048, .i32⟩
  | 69 => ⟨S1x12x16x2048, .i32⟩
  | 70 => ⟨S_, .i32⟩
  | 71 => ⟨S1x12x16x2048, .i32⟩
  | 72 => ⟨S1x12x16x2048, .i32⟩
  | 73 => ⟨S1x12x16x2048, .i32⟩
  | 74 => ⟨S1x12x16x2048, .i32⟩
  | 75 => ⟨S_, .i32⟩
  | 76 => ⟨S1x12x16x2048, .i32⟩
  | 77 => ⟨S1x12x16x2048, .i32⟩
  | 78 => ⟨S_, .i32⟩
  | 79 => ⟨S1x12x16x2048, .i32⟩
  | 80 => ⟨S1x12x16x2048, .i32⟩
  | 81 => ⟨S1x12x16x2048, .i32⟩
  | 82 => ⟨S_, .i32⟩
  | 83 => ⟨S1x12x16x2048, .i32⟩
  | 84 => ⟨S1x12x16x2048, .i32⟩
  | 85 => ⟨S_, .i32⟩
  | 86 => ⟨S1x12x16x2048, .i32⟩
  | 87 => ⟨S1x12x16x2048, .i32⟩
  | 88 => ⟨S1x12x16x2048, .i32⟩
  | 89 => ⟨S1x12x16x2048, .i32⟩
  | 90 => ⟨S1x12x16x2048, .i32⟩
  | 91 => ⟨S_, .i32⟩
  | 92 => ⟨S1x12x16x2048, .i32⟩
  | 93 => ⟨S1x12x16x2048, .i32⟩
  | 94 => ⟨S_, .i32⟩
  | 95 => ⟨S1x12x16x2048, .i32⟩
  | 96 => ⟨S1x12x16x2048, .i32⟩
  | 97 => ⟨S1x12x16x2048, .i32⟩
  | 98 => ⟨S1x12x16x2048, .i32⟩
  | 99 => ⟨S1x12x16x2048, .i32⟩
  | 100 => ⟨S_, .i32⟩
  | 101 => ⟨S1x12x16x2048, .i32⟩
  | 102 => ⟨S1x12x16x2048, .i32⟩
  | 103 => ⟨S_, .i32⟩
  | 104 => ⟨S1x12x16x2048, .i32⟩
  | 105 => ⟨S1x12x16x2048, .i32⟩
  | 106 => ⟨S1x12x16x2048, .i32⟩
  | 107 => ⟨S1x12x16x2048, .i32⟩
  | 108 => ⟨S1x12x16x2048, .i32⟩
  | 109 => ⟨S_, .i32⟩
  | 110 => ⟨S1x12x16x2048, .i32⟩
  | 111 => ⟨S1x12x16x2048, .i32⟩
  | 112 => ⟨S_, .i32⟩
  | 113 => ⟨S1x12x16x2048, .i32⟩
  | 114 => ⟨S1x12x16x2048, .i32⟩
  | 115 => ⟨S1x12x16x2048, .i32⟩
  | 116 => ⟨S1x12x16x2048, .i32⟩
  | 117 => ⟨S_, .i32⟩
  | 118 => ⟨S1x12x16x2048, .i32⟩
  | 119 => ⟨S1x12x16x2048, .i32⟩
  | 120 => ⟨S_, .i32⟩
  | 121 => ⟨S1x12x16x2048, .i32⟩
  | 122 => ⟨S1x12x16x2048, .i32⟩
  | 123 => ⟨S1x12x16x2048, .i32⟩
  | 124 => ⟨S_, .i32⟩
  | 125 => ⟨S1x12x16x2048, .i32⟩
  | 126 => ⟨S1x12x16x2048, .i32⟩
  | 127 => ⟨S_, .i32⟩
  | _ => ⟨S1x2048x768, .f32⟩

abbrev hbmTy0_1 (i : Nat) : BufTy := match i % 128 with
  | 0 => ⟨S1x12x16x2048, .i32⟩
  | 1 => ⟨S1x12x16x2048, .i32⟩
  | 2 => ⟨S1x12x16x2048, .i32⟩
  | 3 => ⟨S1x12x16x2048, .i32⟩
  | 4 => ⟨S1x12x16x2048, .i32⟩
  | 5 => ⟨S_, .i32⟩
  | 6 => ⟨S1x12x16x2048, .i32⟩
  | 7 => ⟨S1x12x16x2048, .i32⟩
  | 8 => ⟨S_, .i32⟩
  | 9 => ⟨S1x12x16x2048, .i32⟩
  | 10 => ⟨S1x12x16x2048, .i32⟩
  | 11 => ⟨S1x12x16x2048, .i32⟩
  | 12 => ⟨S1x12x16x2048, .i32⟩
  | 13 => ⟨S1x12x16x2048, .i32⟩
  | 14 => ⟨S_, .i32⟩
  | 15 => ⟨S1x12x16x2048, .i32⟩
  | 16 => ⟨S1x12x16x2048, .i32⟩
  | 17 => ⟨S_, .i32⟩
  | 18 => ⟨S1x12x16x2048, .i32⟩
  | 19 => ⟨S1x12x16x2048, .i32⟩
  | 20 => ⟨S1x12x16x2048, .i32⟩
  | 21 => ⟨S1x12x16x2048, .i32⟩
  | 22 => ⟨S1x12x16x2048, .i32⟩
  | 23 => ⟨S_, .i32⟩
  | 24 => ⟨S1x12x16x2048, .i32⟩
  | 25 => ⟨S1x12x16x2048, .i32⟩
  | 26 => ⟨S_, .i32⟩
  | 27 => ⟨S1x12x16x2048, .i32⟩
  | 28 => ⟨S1x12x16x2048, .i32⟩
  | 29 => ⟨S1x12x16x2048, .i32⟩
  | 30 => ⟨S1x12x16x2048, .i32⟩
  | 31 => ⟨S_, .i32⟩
  | 32 => ⟨S1x12x16x2048, .i32⟩
  | 33 => ⟨S1x12x16x2048, .i32⟩
  | 34 => ⟨S_, .i32⟩
  | 35 => ⟨S1x12x16x2048, .i32⟩
  | 36 => ⟨S1x12x16x2048, .i32⟩
  | 37 => ⟨S1x12x16x2048, .i32⟩
  | 38 => ⟨S_, .i32⟩
  | 39 => ⟨S1x12x16x2048, .i32⟩
  | 40 => ⟨S1x12x16x2048, .i32⟩
  | 41 => ⟨S_, .i32⟩
  | 42 => ⟨S1x12x16x2048, .i32⟩
  | 43 => ⟨S1x12x16x2048, .i32⟩
  | 44 => ⟨S1x12x16x2048, .i32⟩
  | 45 => ⟨S1x12x16x2048, .i32⟩
  | 46 => ⟨S1x12x16x2048, .i32⟩
  | 47 => ⟨S_, .i32⟩
  | 48 => ⟨S1x12x16x2048, .i32⟩
  | 49 => ⟨S1x12x16x2048, .i32⟩
  | 50 => ⟨S_, .i32⟩
  | 51 => ⟨S1x12x16x2048, .i32⟩
  | 52 => ⟨S1x12x16x2048, .i32⟩
  | 53 => ⟨S1x12x16x2048, .i32⟩
  | 54 => ⟨S1x12x16x2048, .i32⟩
  | 55 => ⟨S1x12x16x2048, .i32⟩
  | 56 => ⟨S_, .i32⟩
  | 57 => ⟨S1x12x16x2048, .i32⟩
  | 58 => ⟨S1x12x16x2048, .i32⟩
  | 59 => ⟨S_, .i32⟩
  | 60 => ⟨S1x12x16x2048, .i32⟩
  | 61 => ⟨S1x12x16x2048, .i32⟩
  | 62 => ⟨S1x12x16x2048, .i32⟩
  | 63 => ⟨S1x12x16x2048, .i32⟩
  | 64 => ⟨S1x12x16x2048, .i32⟩
  | 65 => ⟨S_, .i32⟩
  | 66 => ⟨S1x12x16x2048, .i32⟩
  | 67 => ⟨S1x12x16x2048, .i32⟩
  | 68 => ⟨S_, .i32⟩
  | 69 => ⟨S1x12x16x2048, .i32⟩
  | 70 => ⟨S1x12x16x2048, .i32⟩
  | 71 => ⟨S1x12x16x2048, .i32⟩
  | 72 => ⟨S1x12x16x2048, .i32⟩
  | 73 => ⟨S_, .i32⟩
  | 74 => ⟨S1x12x16x2048, .i32⟩
  | 75 => ⟨S1x12x16x2048, .i32⟩
  | 76 => ⟨S_, .i32⟩
  | 77 => ⟨S1x12x16x2048, .i32⟩
  | 78 => ⟨S1x12x16x2048, .i32⟩
  | 79 => ⟨S1x12x16x2048, .i32⟩
  | 80 => ⟨S_, .i32⟩
  | 81 => ⟨S1x12x16x2048, .i32⟩
  | 82 => ⟨S1x12x16x2048, .i32⟩
  | 83 => ⟨S_, .i32⟩
  | 84 => ⟨S1x12x16x2048, .i32⟩
  | 85 => ⟨S1x12x16x2048, .i32⟩
  | 86 => ⟨S1x12x16x2048, .i32⟩
  | 87 => ⟨S1x12x16x2048, .i32⟩
  | 88 => ⟨S1x12x16x2048, .i32⟩
  | 89 => ⟨S_, .i32⟩
  | 90 => ⟨S1x12x16x2048, .i32⟩
  | 91 => ⟨S1x12x16x2048, .i32⟩
  | 92 => ⟨S_, .i32⟩
  | 93 => ⟨S1x12x16x2048, .i32⟩
  | 94 => ⟨S1x12x16x2048, .i32⟩
  | 95 => ⟨S1x12x16x2048, .i32⟩
  | 96 => ⟨S1x12x16x2048, .i32⟩
  | 97 => ⟨S1x12x16x2048, .i32⟩
  | 98 => ⟨S_, .i32⟩
  | 99 => ⟨S1x12x16x2048, .i32⟩
  | 100 => ⟨S1x12x16x2048, .i32⟩
  | 101 => ⟨S_, .i32⟩
  | 102 => ⟨S1x12x16x2048, .i32⟩
  | 103 => ⟨S1x12x16x2048, .i32⟩
  | 104 => ⟨S1x12x16x2048, .i32⟩
  | 105 => ⟨S1x12x16x2048, .i32⟩
  | 106 => ⟨S1x12x16x2048, .i32⟩
  | 107 => ⟨S_, .i32⟩
  | 108 => ⟨S1x12x16x2048, .i32⟩
  | 109 => ⟨S1x12x16x2048, .i32⟩
  | 110 => ⟨S_, .i32⟩
  | 111 => ⟨S1x12x16x2048, .i32⟩
  | 112 => ⟨S1x12x16x2048, .i32⟩
  | 113 => ⟨S1x12x16x2048, .i32⟩
  | 114 => ⟨S1x12x16x2048, .i32⟩
  | 115 => ⟨S_, .i32⟩
  | 116 => ⟨S1x12x16x2048, .i32⟩
  | 117 => ⟨S1x12x16x2048, .i32⟩
  | 118 => ⟨S_, .i32⟩
  | 119 => ⟨S1x12x16x2048, .i32⟩
  | 120 => ⟨S1x12x16x2048, .i32⟩
  | 121 => ⟨S1x12x16x2048, .i32⟩
  | 122 => ⟨S_, .i32⟩
  | 123 => ⟨S1x12x16x2048, .i32⟩
  | 124 => ⟨S1x12x16x2048, .i32⟩
  | 125 => ⟨S_, .i32⟩
  | 126 => ⟨S1x12x16x2048, .i32⟩
  | 127 => ⟨S1x12x16x2048, .i32⟩
  | _ => ⟨S1x2048x768, .f32⟩

abbrev hbmTy0_2 (i : Nat) : BufTy := match i % 128 with
  | 0 => ⟨S1x12x16x2048, .f32⟩
  | 1 => ⟨S_, .f32⟩
  | 2 => ⟨S1x12x16x2048, .f32⟩
  | 3 => ⟨S1x12x16x2048, .f32⟩
  | 4 => ⟨S1x12x16x2048, .f32⟩
  | 5 => ⟨S1x12x16x2048, .f32⟩
  | 6 => ⟨S1x12x16x2048, .f32⟩
  | 7 => ⟨S_, .f32⟩
  | 8 => ⟨S1x12x16x2048, .f32⟩
  | 9 => ⟨S1x12x16x2048, .f32⟩
  | 10 => ⟨S1x12x16x2048, .f32⟩
  | 11 => ⟨S_, .f32⟩
  | 12 => ⟨S1x12x16x2048, .f32⟩
  | 13 => ⟨S1x12x16x2048, .f32⟩
  | 14 => ⟨S1x12x16x2048, .f32⟩
  | 15 => ⟨S1x12x16x2048, .f32⟩
  | 16 => ⟨S1x1x1x2048, .i1⟩
  | 17 => ⟨S1x12x16x2048, .i1⟩
  | 18 => ⟨S_, .f32⟩
  | 19 => ⟨S1x12x16x2048, .f32⟩
  | 20 => ⟨S1x12x16x2048, .f32⟩
  | 21 => ⟨S1x12x16x2048, .f32⟩
  | 22 => ⟨S1x12x16x256, .f32⟩
  | 23 => ⟨S1x12x16x256, .i32⟩
  | 24 => ⟨S1x12x16x256, .i32⟩
  | 25 => ⟨S1x12x4096x1, .i32⟩
  | 26 => ⟨S1x12x4096x64, .i32⟩
  | 27 => ⟨S1x1x12x2048x64, .f32⟩
  | 28 => ⟨S1x12x2048x64, .f32⟩
  | 29 => ⟨S_, .i32⟩
  | 30 => ⟨S1x12x4096x64, .i32⟩
  | 31 => ⟨S1x12x4096x64, .i1⟩
  | 32 => ⟨S_, .i32⟩
  | 33 => ⟨S1x12x4096x64, .i32⟩
  | 34 => ⟨S1x12x4096x64, .i32⟩
  | 35 => ⟨S1x12x4096x64, .i32⟩
  | 36 => ⟨S12x4096x64x1, .i32⟩
  | 37 => ⟨S1x12x4096x64, .f32⟩
  | 38 => ⟨S1x12x16x256x64, .f32⟩
  | 39 => ⟨S1x1x12x2048x64, .f32⟩
  | 40 => ⟨S1x12x2048x64, .f32⟩
  | 41 => ⟨S_, .i32⟩
  | 42 => ⟨S1x12x4096x64, .i32⟩
  | 43 => ⟨S1x12x4096x64, .i1⟩
  | 44 => ⟨S_, .i32⟩
  | 45 => ⟨S1x12x4096x64, .i32⟩
  | 46 => ⟨S1x12x4096x64, .i32⟩
  | 47 => ⟨S1x12x4096x64, .i32⟩
  | 48 => ⟨S12x4096x64x1, .i32⟩
  | 49 => ⟨S1x12x4096x64, .f32⟩
  | 50 => ⟨S1x12x16x256x64, .f32⟩
  | 51 => ⟨S1x49152, .i32⟩
  | 52 => ⟨S_, .i32⟩
  | 53 => ⟨S1x49152, .i32⟩
  | 54 => ⟨S1x49152, .i1⟩
  | 55 => ⟨S_, .i32⟩
  | 56 => ⟨S1x49152, .i32⟩
  | 57 => ⟨S1x49152, .i32⟩
  | 58 => ⟨S1x49152, .i32⟩
  | 59 => ⟨S49152x1, .i32⟩
  | 60 => ⟨S1x49152, .i1⟩
  | 61 => ⟨S1x12x16x256, .i1⟩
  | 62 => ⟨S1x12x16x128x256, .f32⟩
  | 63 => ⟨S_, .f32⟩
  | 64 => ⟨S1x12x16x128x256, .f32⟩
  | 65 => ⟨S1x12x16x128x256, .f32⟩
  | 66 => ⟨S1x12x16x128x2048, .f32⟩
  | 67 => ⟨S1x12x16x1x256, .i32⟩
  | 68 => ⟨S1x12x16x128x256, .i32⟩
  | 69 => ⟨S_, .i32⟩
  | 70 => ⟨S1x12x16x128x256, .i32⟩
  | 71 => ⟨S1x12x16x128x256, .i1⟩
  | 72 => ⟨S_, .i32⟩
  | 73 => ⟨S1x12x16x128x256, .i32⟩
  | 74 => ⟨S1x12x16x128x256, .i32⟩
  | 75 => ⟨S1x12x16x128x256, .i32⟩
  | 76 => ⟨S12x16x128x256x1, .i32⟩
  | 77 => ⟨S1x12x16x128x256, .f32⟩
  | 78 => ⟨S1x12x16x128x256, .f32⟩
  | 79 => ⟨S1x12x16x128x1, .i1⟩
  | 80 => ⟨S1x12x16x1x256, .i1⟩
  | 81 => ⟨S1x12x16x128x256, .i1⟩
  | 82 => ⟨S1x12x16x128x256, .i1⟩
  | 83 => ⟨S1x12x16x128x256, .i1⟩
  | 84 => ⟨S_, .f32⟩
  | 85 => ⟨S1x12x16x128x256, .f32⟩
  | 86 => ⟨S1x12x16x128x256, .f32⟩
  | 87 => ⟨S_, .f32⟩
  | 88 => ⟨S1x12x16x128, .f32⟩
  | 89 => ⟨S_, .f32⟩
  | 90 => ⟨S1x12x16x128, .f32⟩
  | 91 => ⟨S1x12x16x128, .f32⟩
  | 92 => ⟨S1x12x16x128x1, .f32⟩
  | 93 => ⟨S1x12x16x128x256, .f32⟩
  | 94 => ⟨S1x12x16x128x256, .f32⟩
  | 95 => ⟨S1x12x16x128x256, .f32⟩
  | 96 => ⟨S_, .f32⟩
  | 97 => ⟨S1x12x16x128, .f32⟩
  | 98 => ⟨S1x12x16x128x1, .f32⟩
  | 99 => ⟨S1x12x16x128x256, .f32⟩
  | 100 => ⟨S1x12x16x128x256, .f32⟩
  | 101 => ⟨S1x12x16x128x64, .f32⟩
  | 102 => ⟨S1x16x128x12x64, .f32⟩
  | 103 => ⟨S1x2048x768, .f32⟩
  | 104 => ⟨S1x2048x768, .f32⟩
  | 105 => ⟨S1x1x768, .f32⟩
  | 106 => ⟨S1x2048x768, .f32⟩
  | 107 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_c_0 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_4 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_c_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_v62 : Ref sig .tc := ⟨.hbm, 83, rfl⟩
abbrev main_v63 : Ref sig .tc := ⟨.hbm, 84, rfl⟩
abbrev main_c_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_14 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_16 : Ref sig .tc := ⟨.hbm, 100, rfl⟩
abbrev main_v76 : Ref sig .tc := ⟨.hbm, 101, rfl⟩
abbrev main_v77 : Ref sig .tc := ⟨.hbm, 102, rfl⟩
abbrev main_c_17 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_18 : Ref sig .tc := ⟨.hbm, 109, rfl⟩
abbrev main_v83 : Ref sig .tc := ⟨.hbm, 110, rfl⟩
abbrev main_v84 : Ref sig .tc := ⟨.hbm, 111, rfl⟩
abbrev main_c_19 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_20 : Ref sig .tc := ⟨.hbm, 117, rfl⟩
abbrev main_v89 : Ref sig .tc := ⟨.hbm, 118, rfl⟩
abbrev main_v90 : Ref sig .tc := ⟨.hbm, 119, rfl⟩
abbrev main_c_21 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_22 : Ref sig .tc := ⟨.hbm, 124, rfl⟩
abbrev main_v94 : Ref sig .tc := ⟨.hbm, 125, rfl⟩
abbrev main_v95 : Ref sig .tc := ⟨.hbm, 126, rfl⟩
abbrev main_c_23 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_24 : Ref sig .tc := ⟨.hbm, 133, rfl⟩
abbrev main_v101 : Ref sig .tc := ⟨.hbm, 134, rfl⟩
abbrev main_v102 : Ref sig .tc := ⟨.hbm, 135, rfl⟩
abbrev main_c_25 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_26 : Ref sig .tc := ⟨.hbm, 142, rfl⟩
abbrev main_v108 : Ref sig .tc := ⟨.hbm, 143, rfl⟩
abbrev main_v109 : Ref sig .tc := ⟨.hbm, 144, rfl⟩
abbrev main_c_27 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_28 : Ref sig .tc := ⟨.hbm, 151, rfl⟩
abbrev main_v115 : Ref sig .tc := ⟨.hbm, 152, rfl⟩
abbrev main_v116 : Ref sig .tc := ⟨.hbm, 153, rfl⟩
abbrev main_c_29 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_c_30 : Ref sig .tc := ⟨.hbm, 159, rfl⟩
abbrev main_v121 : Ref sig .tc := ⟨.hbm, 160, rfl⟩
abbrev main_v122 : Ref sig .tc := ⟨.hbm, 161, rfl⟩
abbrev main_c_31 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_32 : Ref sig .tc := ⟨.hbm, 166, rfl⟩
abbrev main_v126 : Ref sig .tc := ⟨.hbm, 167, rfl⟩
abbrev main_v127 : Ref sig .tc := ⟨.hbm, 168, rfl⟩
abbrev main_c_33 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_c_34 : Ref sig .tc := ⟨.hbm, 175, rfl⟩
abbrev main_v133 : Ref sig .tc := ⟨.hbm, 176, rfl⟩
abbrev main_v134 : Ref sig .tc := ⟨.hbm, 177, rfl⟩
abbrev main_c_35 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_c_36 : Ref sig .tc := ⟨.hbm, 184, rfl⟩
abbrev main_v140 : Ref sig .tc := ⟨.hbm, 185, rfl⟩
abbrev main_v141 : Ref sig .tc := ⟨.hbm, 186, rfl⟩
abbrev main_c_37 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_38 : Ref sig .tc := ⟨.hbm, 193, rfl⟩
abbrev main_v147 : Ref sig .tc := ⟨.hbm, 194, rfl⟩
abbrev main_v148 : Ref sig .tc := ⟨.hbm, 195, rfl⟩
abbrev main_c_39 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_c_40 : Ref sig .tc := ⟨.hbm, 201, rfl⟩
abbrev main_v153 : Ref sig .tc := ⟨.hbm, 202, rfl⟩
abbrev main_v154 : Ref sig .tc := ⟨.hbm, 203, rfl⟩
abbrev main_c_41 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_c_42 : Ref sig .tc := ⟨.hbm, 208, rfl⟩
abbrev main_v158 : Ref sig .tc := ⟨.hbm, 209, rfl⟩
abbrev main_v159 : Ref sig .tc := ⟨.hbm, 210, rfl⟩
abbrev main_c_43 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_c_44 : Ref sig .tc := ⟨.hbm, 217, rfl⟩
abbrev main_v165 : Ref sig .tc := ⟨.hbm, 218, rfl⟩
abbrev main_v166 : Ref sig .tc := ⟨.hbm, 219, rfl⟩
abbrev main_c_45 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_c_46 : Ref sig .tc := ⟨.hbm, 226, rfl⟩
abbrev main_v172 : Ref sig .tc := ⟨.hbm, 227, rfl⟩
abbrev main_v173 : Ref sig .tc := ⟨.hbm, 228, rfl⟩
abbrev main_c_47 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_c_48 : Ref sig .tc := ⟨.hbm, 235, rfl⟩
abbrev main_v179 : Ref sig .tc := ⟨.hbm, 236, rfl⟩
abbrev main_v180 : Ref sig .tc := ⟨.hbm, 237, rfl⟩
abbrev main_c_49 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_c_50 : Ref sig .tc := ⟨.hbm, 243, rfl⟩
abbrev main_v185 : Ref sig .tc := ⟨.hbm, 244, rfl⟩
abbrev main_v186 : Ref sig .tc := ⟨.hbm, 245, rfl⟩
abbrev main_c_51 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_c_52 : Ref sig .tc := ⟨.hbm, 250, rfl⟩
abbrev main_v190 : Ref sig .tc := ⟨.hbm, 251, rfl⟩
abbrev main_v191 : Ref sig .tc := ⟨.hbm, 252, rfl⟩
abbrev main_c_53 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_cst : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_cst_54 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_cst_55 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_cst_56 : Ref sig .tc := ⟨.hbm, 274, rfl⟩
abbrev main_call0_v0 : Ref sig .tc := ⟨.hbm, 275, rfl⟩
abbrev main_v209 : Ref sig .tc := ⟨.hbm, 276, rfl⟩
abbrev main_v210 : Ref sig .tc := ⟨.hbm, 277, rfl⟩
abbrev main_values : Ref sig .tc := ⟨.hbm, 278, rfl⟩
abbrev main_indices : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_call2_c : Ref sig .tc := ⟨.hbm, 285, rfl⟩
abbrev main_call2_v0 : Ref sig .tc := ⟨.hbm, 286, rfl⟩
abbrev main_call2_v1 : Ref sig .tc := ⟨.hbm, 287, rfl⟩
abbrev main_call2_c_0 : Ref sig .tc := ⟨.hbm, 288, rfl⟩
abbrev main_call2_v2 : Ref sig .tc := ⟨.hbm, 289, rfl⟩
abbrev main_call2_v3 : Ref sig .tc := ⟨.hbm, 290, rfl⟩
abbrev main_call2_v4 : Ref sig .tc := ⟨.hbm, 291, rfl⟩
abbrev main_call2_v5 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_call3_c : Ref sig .tc := ⟨.hbm, 297, rfl⟩
abbrev main_call3_v0 : Ref sig .tc := ⟨.hbm, 298, rfl⟩
abbrev main_call3_v1 : Ref sig .tc := ⟨.hbm, 299, rfl⟩
abbrev main_call3_c_0 : Ref sig .tc := ⟨.hbm, 300, rfl⟩
abbrev main_call3_v2 : Ref sig .tc := ⟨.hbm, 301, rfl⟩
abbrev main_call3_v3 : Ref sig .tc := ⟨.hbm, 302, rfl⟩
abbrev main_call3_v4 : Ref sig .tc := ⟨.hbm, 303, rfl⟩
abbrev main_call3_v5 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_call4_c : Ref sig .tc := ⟨.hbm, 308, rfl⟩
abbrev main_call4_v0 : Ref sig .tc := ⟨.hbm, 309, rfl⟩
abbrev main_call4_v1 : Ref sig .tc := ⟨.hbm, 310, rfl⟩
abbrev main_call4_c_0 : Ref sig .tc := ⟨.hbm, 311, rfl⟩
abbrev main_call4_v2 : Ref sig .tc := ⟨.hbm, 312, rfl⟩
abbrev main_call4_v3 : Ref sig .tc := ⟨.hbm, 313, rfl⟩
abbrev main_call4_v4 : Ref sig .tc := ⟨.hbm, 314, rfl⟩
abbrev main_call4_v5 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_cst_57 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_call5_c : Ref sig .tc := ⟨.hbm, 325, rfl⟩
abbrev main_call5_v0 : Ref sig .tc := ⟨.hbm, 326, rfl⟩
abbrev main_call5_v1 : Ref sig .tc := ⟨.hbm, 327, rfl⟩
abbrev main_call5_c_0 : Ref sig .tc := ⟨.hbm, 328, rfl⟩
abbrev main_call5_v2 : Ref sig .tc := ⟨.hbm, 329, rfl⟩
abbrev main_call5_v3 : Ref sig .tc := ⟨.hbm, 330, rfl⟩
abbrev main_call5_v4 : Ref sig .tc := ⟨.hbm, 331, rfl⟩
abbrev main_call5_v5 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_cst_58 : Ref sig .tc := ⟨.hbm, 340, rfl⟩
abbrev main_call6_v0 : Ref sig .tc := ⟨.hbm, 341, rfl⟩
abbrev main_v238 : Ref sig .tc := ⟨.hbm, 342, rfl⟩
abbrev main_cst_59 : Ref sig .tc := ⟨.hbm, 343, rfl⟩
abbrev main_v239 : Ref sig .tc := ⟨.hbm, 344, rfl⟩
abbrev main_cst_60 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_cst_61 : Ref sig .tc := ⟨.hbm, 352, rfl⟩
abbrev main_v246 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩

abbrev nD : Nat := 1
abbrev τ : Topo := Topo.v7x

variable {F : FTy → Type} [FloatOps F]
-- ==== Proof.KernelIdeal.Bisect.lean ====
/- The bisection of `KernelIdeal`'s selection call: its 44 steps touch no memory, so that the loop is the 44th state of the interval's ends. -/
module

public import proofs.«01_k».proof.Proof.Gen.KernelIdeal.Skeleton

@[expose] public section

noncomputable section

namespace Cert.KernelIdeal.Hand

open Idealize.ShloMosaic Idealize.SL.Sem Cert.KernelIdeal.Gen

/-- A loop whose trips only compute returns the iterate of what a trip computes. -/
theorem forFrom_pure {E : Type → Type} {σ : Type} {n : ℕ} (body : Fin n → σ → Prog E σ) (f : σ → σ) (h : ∀ k a, body k a = .ret (f a)) :
    ∀ (ks : List (Fin n)) (a : σ), Scf.forFrom body ks a = .ret (f^[ks.length] a)
  | [], _ => rfl
  | k :: ks, a => by
    rw [Scf.forFrom_cons, h]
    exact forFrom_pure body f h ks (f a)

variable {F : FTy → Type} [FloatOps F] [Named F]

/-- One step: the half of every row's interval that holds the 256th least score. -/
def halve (x : Vec F S192x2048 .f32) (p : FVec F S192x1 .f32 × FVec F S192x1 .f32) : FVec F S192x1 .f32 × FVec F S192x1 .f32 :=
  (k0_pay6 x p.1 p.2, k0_pay7 x p.1 p.2)

/-- The ends of every row's interval after `n` steps. -/
def bisect (x : Vec F S192x2048 .f32) (n : ℕ) : FVec F S192x1 .f32 × FVec F S192x1 .f32 :=
  (halve x)^[n] (k0_pay2 x, k0_pay3 x)

theorem loop_eq (arg0 : Memref sig .tc .vmem S192x2048 .f32) (harg0 : arg0.IsWhole) (arg1 : Memref sig .tc .vmem S192x2048 .f32) (harg1 : arg1.IsWhole)
    (x : Vec F S192x2048 .f32) :
    Scf.Loop.for k0_t2_loop k0_t2_ok (k0_pay2 x, k0_pay3 x) (k0_t2_body (F := F) arg0 harg0 arg1 harg1 x) = .ret (bisect x 44) := by
  refine (Scf.for_eq _ _ _ _ _ _).trans ((forFrom_pure _ (halve x) (fun k a => rfl) _ _).trans ?_)
  rw [List.length_finRange]
  rfl

end Cert.KernelIdeal.Hand
-- ==== Proof.KernelIdeal.Draw.lean ====
/- The drawing in `KernelIdeal`'s selection call: twelve trips, each storing sixteen rows of scores, so that the scratch ends as the array of all scores. -/
module

public import proofs.«01_k».proof.Proof.Gen.KernelIdeal.Skeleton
public import proofs.«01_k».proof.Proof.Gen.KernelIdeal.Launch
public import Idealize.ShloMosaic.Lib.Pipeline.Value
public import Idealize.ShloMosaic.Lib.Tactic
public import Idealize.ShloMosaic.Lib.Ring

@[expose] public section

set_option maxRecDepth 16384
set_option warn.classDefReducibility false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The numbers of the eight rounds after the first five, from those of the first two words. -/
def bits2 (k : Fin k0_t1_loop.trips) : IVec S16x2048 32 × IVec S16x2048 32 :=
  (k0_pay29 (k0_pay17 0#32 1#32 k) (k0_pay18 0#32 1#32 k), k0_pay30 (k0_pay17 0#32 1#32 k) (k0_pay18 0#32 1#32 k))
def bits3 (k : Fin k0_t1_loop.trips) : IVec S16x2048 32 × IVec S16x2048 32 :=
  (k0_pay41 (bits2 k).1 (bits2 k).2, k0_pay42 (bits2 k).1 (bits2 k).2)

/-- The sixteen rows of scores that trip `k` stores. -/
def chunk (k : Fin k0_t1_loop.trips) : FVec F S16x2048 .f32 :=
  k0_pay1 (k0_pay44 (k0_pay43 (F := F) (bits3 k).1 (bits3 k).2) (Scalar.ofBits .f32 0x00000000#32)) (k0_pay45 (Scalar.muli 16#32 (Scf.iv 0#32 1#32 k)))
    (iota .tc S16x2048 32 [1] iota_S16x2048_d1_w32) 128#32 k0_pay46 k0_pay47

/-- The rows of trip `k`. -/
abbrev rowsOf (k : Fin k0_t1_loop.trips) : Rect S192x2048 := Rect.unit (s := S192x2048) (k0_off1 k) S16x2048.size (k0_off1_inb k)

theorem trip_eq (arg0 : Memref sig .tc .vmem S192x2048 .f32) (harg0 : arg0.IsWhole) (arg1 : Memref sig .tc .vmem S192x2048 .f32) (harg1 : arg1.IsWhole)
    (k : Fin k0_t1_loop.trips) (u : Unit) : k0_t1_body (F := F) arg0 harg0 arg1 harg1 k u = (do
      let v253 : Vec F S16x2048 .f32 ← Prog.lift (.load arg1 (rowsOf k).toLoadRect (View.loadsAt_vmem h_S16x2048))
      Prog.lift (.store arg1 (rowsOf k) (chunk k) Finset.univ (View.stores_vmem_bits_univ h_S16x2048 rfl) (.inl rfl))
      pure ⟨⟩) := by
  unfold k0_t1_body
  simp only [k0_part1_eq_skeleton, k0_part2_eq_skeleton, k0_part3_eq_skeleton, k0_part4_eq_skeleton, k0_part5_eq_skeleton]
  rfl

/-- The stores of the trips before `k`, newest first. -/
def rowsBefore : ℕ → List (View.Piece (Elt F) S192x2048 .f32)
  | 0 => []
  | k + 1 => if h : k < k0_t1_loop.trips then ⟨rowsOf ⟨k, h⟩, chunk ⟨k, h⟩⟩ :: rowsBefore k else rowsBefore k

/-- Before trip `k` the scratch holds the rows of the trips before it over what it held. -/
def drawn (c : Dev nD) (arg1 : Memref sig .tc .vmem S192x2048 .f32) (d : arg1.view.ty.Contents (Elt F)) (k : ℕ) (_ : Unit) : sProp 𝕄 :=
  iprop(∃ f : arg1.view.ty.Contents (Elt F), (arg1.view.loc (c : Thread nD τ) ↦[arg1.view.set]{fullShare} f) ∗ ⌜f = arg1.view.writes (Elt F) d (rowsBefore k)⌝)

theorem drawn_step (c : Dev nD) (E : Set ℕ) (arg0 : Memref sig .tc .vmem S192x2048 .f32) (harg0 : arg0.IsWhole) (arg1 : Memref sig .tc .vmem S192x2048 .f32) (harg1 : arg1.IsWhole)
    (d : arg1.view.ty.Contents (Elt F)) (k : Fin k0_t1_loop.trips) (u : Unit) :
    drawn c arg1 d k u ⊢ wp frame (wpE (defs₀ (F := F)) Variants.none c none) E (k0_t1_body (F := F) arg0 harg0 arg1 harg1 k u) (drawn c arg1 d (k.val + 1)) := by
  rw [trip_eq]
  unfold drawn
  iintro ⟨%f, H, %hf⟩
  subst hf
  sl_exec
  sl_step
  iexists _
  isplitl [H]; · iexact H
  ipureintro
  show _ = arg1.view.writes (Elt F) d (rowsBefore (k.val + 1))
  rw [rowsBefore, dif_pos k.isLt]

/-- The loop's invariant. -/
def drawInv (c : Dev nD) (E : Set ℕ) (arg0 : Memref sig .tc .vmem S192x2048 .f32) (harg0 : arg0.IsWhole) (arg1 : Memref sig .tc .vmem S192x2048 .f32) (harg1 : arg1.IsWhole)
    (d : arg1.view.ty.Contents (Elt F)) :
    LoopInv (M := 𝕄) frame (wpE (defs₀ (F := F)) Variants.none c none) E k0_t1_loop.lb k0_t1_loop.ub k0_t1_loop.st k0_t1_ok ⟨⟩
      (k0_t1_body (F := F) arg0 harg0 arg1 harg1) where
  inv := drawn c arg1 d
  step := drawn_step c E arg0 harg0 arg1 harg1 d

theorem trips_eq : k0_t1_loop.trips = 12 := by decide +kernel

/-- The rows a trip stores begin at sixteen times its number. -/
theorem off_eq : ∀ k : Fin k0_t1_loop.trips, k0_off1 k 0 = 16 * k.val ∧ k0_off1 k 1 = 0 := by decide +kernel

theorem mem_rowsBefore (n : ℕ) (k : Fin k0_t1_loop.trips) (h : k.val < n) :
    (⟨rowsOf k, chunk k⟩ : View.Piece (Elt F) S192x2048 .f32) ∈ rowsBefore (F := F) n := by
  induction n with
  | zero => omega
  | succ n ih =>
    rw [rowsBefore]
    by_cases hn : n < k0_t1_loop.trips
    · rw [dif_pos hn]
      by_cases e : k.val = n
      · subst e; exact List.mem_cons_self
      · exact List.mem_cons_of_mem _ (ih (by omega))
    · rw [dif_neg hn]
      exact ih (by have := k.isLt; omega)

/-- Every entry of the scratch is stored. -/
theorem cover_rows (y : S192x2048.Idx) : ∃ p ∈ rowsBefore (F := F) 12, y ∈ p.1.set := by
  have h0 : (y 0).val < 192 := (y 0).isLt
  have h1 : (y 1).val < 2048 := (y 1).isLt
  let k : Fin k0_t1_loop.trips := ⟨(y 0).val / 16, by rw [trips_eq]; omega⟩
  refine ⟨_, mem_rowsBefore 12 k (by show (y 0).val / 16 < 12; omega), ?_⟩
  refine (rowsOf k).mem_set.mpr fun a => ?_
  have ho := off_eq k
  match a with
  | ⟨0, _⟩ => exact ⟨(y 0).val % 16, Nat.mod_lt _ (by decide), by show (y 0).val = k0_off1 k 0 + 1 * _; rw [ho.1]; show _ = 16 * ((y 0).val / 16) + _; omega⟩
  | ⟨1, _⟩ => exact ⟨(y 1).val, h1, by show (y 1).val = k0_off1 k 1 + 1 * _; rw [ho.2]; omega⟩

/-- The array of all scores. -/
def scores : Vec F S192x2048 .f32 := View.canon (rowsBefore (F := F) 12)

end Cert.KernelIdeal.Hand
-- ==== Proof.KernelIdeal.Mask.lean ====
/- The masking call of `KernelIdeal`: scores in, the additive mask out, in one step over whole arrays. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.Bisect
public import proofs.«01_k».proof.Proof.KernelIdeal.Draw

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at grid point `t`, read off its array's contents `V` at the call's start. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S192x2048 := Rect.unit (s := S192x2048) ![0, 0] S192x2048.size inb_S192x2048_S192x2048_0_0

/-- What the body leaves in the output block: the mask of the scores drawn, at the upper end of the last interval. -/
def out0_0 : Vec F S192x2048 .f32 :=
  View.canon [⟨r0_0, k0_pay8 (View.ld scores r0_0) (bisect (View.ld scores r0_0) 44).2⟩]

theorem cover0_0 (p0 : Vec F S192x2048 .f32) (y : S192x2048.Idx) :
    ∃ pc ∈ ([⟨r0_0, p0⟩] : List (View.Piece (Elt F) S192x2048 .f32)), y ∈ pc.1.set :=
  View.cover_of_tiled [⟨r0_0, p0⟩] S192x2048.size (by rfl) y

/-- The scratch after the draws, read whole, is the array of scores. -/
theorem scratch_read (arg1 : Memref sig .tc .vmem S192x2048 .f32) (d : arg1.view.ty.Contents (Elt F)) :
    arg1.view.readAt (Elt F) r0_0.toLoadRect (arg1.view.writes (Elt F) d (rowsBefore 12)) = View.ld scores r0_0 := by
  unfold scores
  rw [← View.read_writes_eq_canon arg1.view d _ (cover_rows)]
  rfl

set_option maxHeartbeats 1000000 in
/-- One run of the body: the output block gets the stated contents, whatever the scratch held. -/
theorem sound_kernel0 (c : Dev nD) (E : Set ℕ) (arg0 : Memref sig .tc .vmem S192x2048 .f32) (harg0 : arg0.IsWhole) (arg1 : Memref sig .tc .vmem S192x2048 .f32) (harg1 : arg1.IsWhole)
    (K : PUnit → sProp 𝕄) :
    iprop((∃ d, owns (c : Thread nD τ) arg0 fullShare d) ∗ (∃ f, arg1.view.loc (c : Thread nD τ) ↦[arg1.view.set]{fullShare} f)
        ∗ (iprop(owns (c : Thread nD τ) arg0 fullShare out0_0 ∗ (∃ f, arg1.view.loc (c : Thread nD τ) ↦[arg1.view.set]{fullShare} f)) -∗ K ⟨⟩))
      ⊢ wp frame (wpE (defs₀ (F := F)) Variants.none c none) E (cc0__sel_kernel arg0 harg0 arg1 harg1) K := by
  simp only [cc0__sel_kernel_eq_skeleton]; unfold cc0__sel_kernel_skel
  simp only [loop_eq]
  unfold owns
  iintro ⟨⟨%d0, %f0, -, H0⟩, ⟨%f1, H1⟩, Hk⟩
  iapply (Scf.wp_for_bind _ _ _ _ _ _ k0_t1_ok ⟨⟩ (k0_t1_body (F := F) arg0 harg0 arg1 harg1) (drawn c arg1 f1) (drawn_step c E arg0 harg0 arg1 harg1 f1)) $$ [H1]
  · unfold drawn
    iexists f1
    isplitl [H1]; · iexact H1
    ipureintro; rfl
  iintro %u HI
  rw [show Scf.trips k0_t1_loop.lb k0_t1_loop.ub k0_t1_loop.st = 12 from trips_eq]
  unfold drawn
  icases HI with ⟨%f, H1, %hf⟩
  have hr := scratch_read (F := F) arg1 f1
  rw [← hf] at hr
  clear hf
  sl_exec
  sl_step
  iapply Hk
  isplitl [H0]
  · iexists _; isplitr
    swap; · iexact H0
    ipureintro
    refine (View.read_writes_eq_canon _ _ _ (cover0_0 _)).trans ?_
    unfold out0_0
    rw [← hr]
  iexists _
  iexact H1

/-- The proof data of this call: what the output block holds after the body, nothing owed. -/
def dat0 (c : Dev nD) : Dat τ (Elt F) Unit ℕ (UR sig nD τ) ℕ cfg0 c where
  A w := V c (Pipeline.arrRef spec0 w)
  after w t := match w with
    | ⟨0, _⟩ => out0_0
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = out0_0 := by dsimp only [dat0]

/-- What the body is entered with at a point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)))

/-- What the body leaves at a point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t))

/-- Owning the scratch as a memref's points is owning the buffer. -/
theorem scratch_loc (c : Dev nD) (f : Buf (Elt F) ((c : Thread nD τ).loc cc0_scratch0)) :
    (((Memref.whole cc0_scratch0).view.loc (c : Thread nD τ) ↦[(Memref.whole cc0_scratch0).view.set]{fullShare} f : sProp 𝕄))
      = (((c : Thread nD τ).loc cc0_scratch0) ↦{fullShare} f) := by
  rw [show (Memref.whole cc0_scratch0).view.set = Finset.univ from View.set_whole _]

/-- The body at any point takes `bodyPre` to `bodyPost`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, show (dat0 V c).Φ t.castSucc = Pipeline.ΦA spec0 c from rfl]
  unfold Pipeline.ΦA
  rw [scopedRest0_split]
  iintro ⟨⟨⟨⟨%f, Hs⟩, Hr⟩, Hp⟩, Ho, ⟨%d0, H0⟩⟩
  iapply (sound_kernel0 c Set.univ _ _ _ _ _)
  isplitl [H0]; · iexists _; iexact H0
  isplitl [Hs]; · iexists f; rw [scratch_loc]; iexact Hs
  iintro ⟨H0, ⟨%f', Hs⟩⟩
  isplitl [Hs Hr Hp]
  · isplitr [Hp]
    · isplitl [Hs]
      · iexists f'; rw [← scratch_loc]; iexact Hs
      iexact Hr
    iexact Hp
  isplitl [Ho]; · iexact Ho
  iexact H0

theorem defs₀_row0 (t : Fin cfg0.N) :
    defs₀ (F := F) .tc cfg0.body (cfg0.bodyArgs t (cfg0.slots t)) = bodyAt0 t := by
  unfold defs₀; rw [Defs.onTc_tc]

/-- The body's obligation at every point, as the library asks for it. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.Qkv.lean ====
/- The projection call of `KernelIdeal`: a block of 256 rows at each of 8 grid points, its queries, keys and values written per head. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at grid point `t`, read off its array's contents `V` at the call's start. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x768 := Rect.unit (s := S256x768) ![0, 0] S256x768.size inb_S256x768_S256x768_0_0
abbrev r1_1 : Rect S768x2304 := Rect.unit (s := S768x2304) ![0, 0] S768x2304.size inb_S768x2304_S768x2304_0_0
abbrev r1_2 : Rect S12x256x64 := Rect.unit (s := S12x256x64) ![0, 0, 0] S1x256x64.size inb_S12x256x64_S1x256x64_0_0_0
abbrev r1_3 : Rect S12x256x64 := Rect.unit (s := S12x256x64) ![1, 0, 0] S1x256x64.size inb_S12x256x64_S1x256x64_1_0_0
abbrev r1_4 : Rect S12x256x64 := Rect.unit (s := S12x256x64) ![2, 0, 0] S1x256x64.size inb_S12x256x64_S1x256x64_2_0_0
abbrev r1_5 : Rect S12x256x64 := Rect.unit (s := S12x256x64) ![3, 0, 0] S1x256x64.size inb_S12x256x64_S1x256x64_3_0_0
abbrev r1_6 : Rect S12x256x64 := Rect.unit (s := S12x256x64) ![4, 0, 0] S1x256x64.size inb_S12x256x64_S1x256x64_4_0_0
abbrev r1_7 : Rect S12x256x64 := Rect.unit (s := S12x256x64) ![5, 0, 0] S1x256x64.size inb_S12x256x64_S1x256x64_5_0_0
abbrev r1_8 : Rect S12x256x64 := Rect.unit (s := S12x256x64) ![6, 0, 0] S1x256x64.size inb_S12x256x64_S1x256x64_6_0_0
abbrev r1_9 : Rect S12x256x64 := Rect.unit (s := S12x256x64) ![7, 0, 0] S1x256x64.size inb_S12x256x64_S1x256x64_7_0_0
abbrev r1_10 : Rect S12x256x64 := Rect.unit (s := S12x256x64) ![8, 0, 0] S1x256x64.size inb_S12x256x64_S1x256x64_8_0_0
abbrev r1_11 : Rect S12x256x64 := Rect.unit (s := S12x256x64) ![9, 0, 0] S1x256x64.size inb_S12x256x64_S1x256x64_9_0_0
abbrev r1_12 : Rect S12x256x64 := Rect.unit (s := S12x256x64) ![10, 0, 0] S1x256x64.size inb_S12x256x64_S1x256x64_10_0_0
abbrev r1_13 : Rect S12x256x64 := Rect.unit (s := S12x256x64) ![11, 0, 0] S1x256x64.size inb_S12x256x64_S1x256x64_11_0_0

def k1_pay43 (x0 : Vec F S256x768 .f32) (x1 : Vec F S768x2304 .f32) : FVec F S256x2304 .f32 :=
  k1_pay7 (View.ld x0 r1_0) (View.ld x1 r1_1) -- `v4`

/-- What the body leaves in this output block, from the blocks it reads. -/
def out1_2 (x0 : Vec F S256x768 .f32) (x1 : Vec F S768x2304 .f32) : Vec F S12x256x64 .f32 :=
  View.canon [⟨r1_13, k1_pay4 (k1_pay43 x0 x1)⟩,
    ⟨r1_12, k1_pay1 (k1_pay42 (k1_pay43 x0 x1))⟩,
    ⟨r1_11, k1_pay39 (k1_pay43 x0 x1)⟩,
    ⟨r1_10, k1_pay36 (k1_pay35 (k1_pay43 x0 x1))⟩,
    ⟨r1_9, k1_pay32 (k1_pay43 x0 x1)⟩,
    ⟨r1_8, k1_pay29 (k1_pay28 (k1_pay43 x0 x1))⟩,
    ⟨r1_7, k1_pay25 (k1_pay43 x0 x1)⟩,
    ⟨r1_6, k1_pay22 (k1_pay43 x0 x1)⟩,
    ⟨r1_5, k1_pay18 (k1_pay43 x0 x1)⟩,
    ⟨r1_4, k1_pay15 (k1_pay43 x0 x1)⟩,
    ⟨r1_3, k1_pay11 (View.ld x0 r1_0) (View.ld x1 r1_1)⟩,
    ⟨r1_2, k1_pay8 (View.ld x0 r1_0) (View.ld x1 r1_1)⟩]

theorem cover1_2 (p0 : Vec F S1x256x64 .f32) (p1 : Vec F S1x256x64 .f32) (p2 : Vec F S1x256x64 .f32) (p3 : Vec F S1x256x64 .f32) (p4 : Vec F S1x256x64 .f32) (p5 : Vec F S1x256x64 .f32) (p6 : Vec F S1x256x64 .f32) (p7 : Vec F S1x256x64 .f32) (p8 : Vec F S1x256x64 .f32) (p9 : Vec F S1x256x64 .f32) (p10 : Vec F S1x256x64 .f32) (p11 : Vec F S1x256x64 .f32) (y : S12x256x64.Idx) :
    ∃ pc ∈ ([⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] : List (View.Piece (Elt F) S12x256x64 .f32)), y ∈ pc.1.set :=
  View.cover_of_tiled [⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] S1x256x64.size (by rfl) y

/-- What the body leaves in this output block, from the blocks it reads. -/
def out1_3 (x0 : Vec F S256x768 .f32) (x1 : Vec F S768x2304 .f32) : Vec F S12x256x64 .f32 :=
  View.canon [⟨r1_13, k1_pay5 (k1_pay43 x0 x1)⟩,
    ⟨r1_12, k1_pay2 (k1_pay43 x0 x1)⟩,
    ⟨r1_11, k1_pay40 (k1_pay43 x0 x1)⟩,
    ⟨r1_10, k1_pay37 (k1_pay43 x0 x1)⟩,
    ⟨r1_9, k1_pay33 (k1_pay43 x0 x1)⟩,
    ⟨r1_8, k1_pay30 (k1_pay43 x0 x1)⟩,
    ⟨r1_7, k1_pay26 (k1_pay43 x0 x1)⟩,
    ⟨r1_6, k1_pay23 (k1_pay43 x0 x1)⟩,
    ⟨r1_5, k1_pay19 (k1_pay43 x0 x1)⟩,
    ⟨r1_4, k1_pay16 (k1_pay43 x0 x1)⟩,
    ⟨r1_3, k1_pay12 (View.ld x0 r1_0) (View.ld x1 r1_1)⟩,
    ⟨r1_2, k1_pay9 (View.ld x0 r1_0) (View.ld x1 r1_1)⟩]

theorem cover1_3 (p0 : Vec F S1x256x64 .f32) (p1 : Vec F S1x256x64 .f32) (p2 : Vec F S1x256x64 .f32) (p3 : Vec F S1x256x64 .f32) (p4 : Vec F S1x256x64 .f32) (p5 : Vec F S1x256x64 .f32) (p6 : Vec F S1x256x64 .f32) (p7 : Vec F S1x256x64 .f32) (p8 : Vec F S1x256x64 .f32) (p9 : Vec F S1x256x64 .f32) (p10 : Vec F S1x256x64 .f32) (p11 : Vec F S1x256x64 .f32) (y : S12x256x64.Idx) :
    ∃ pc ∈ ([⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] : List (View.Piece (Elt F) S12x256x64 .f32)), y ∈ pc.1.set :=
  View.cover_of_tiled [⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] S1x256x64.size (by rfl) y

/-- What the body leaves in this output block, from the blocks it reads. -/
def out1_4 (x0 : Vec F S256x768 .f32) (x1 : Vec F S768x2304 .f32) : Vec F S12x256x64 .bf16 :=
  View.canon [⟨r1_13, k1_pay6 (k1_pay43 x0 x1)⟩,
    ⟨r1_12, k1_pay3 (k1_pay43 x0 x1)⟩,
    ⟨r1_11, k1_pay41 (k1_pay43 x0 x1)⟩,
    ⟨r1_10, k1_pay38 (k1_pay43 x0 x1)⟩,
    ⟨r1_9, k1_pay34 (k1_pay43 x0 x1)⟩,
    ⟨r1_8, k1_pay31 (k1_pay43 x0 x1)⟩,
    ⟨r1_7, k1_pay27 (k1_pay43 x0 x1)⟩,
    ⟨r1_6, k1_pay24 (k1_pay43 x0 x1)⟩,
    ⟨r1_5, k1_pay21 (k1_pay20 (k1_pay43 x0 x1))⟩,
    ⟨r1_4, k1_pay17 (k1_pay43 x0 x1)⟩,
    ⟨r1_3, k1_pay14 (k1_pay13 (View.ld x0 r1_0) (View.ld x1 r1_1))⟩,
    ⟨r1_2, k1_pay10 (View.ld x0 r1_0) (View.ld x1 r1_1)⟩]

theorem cover1_4 (p0 : Vec F S1x256x64 .bf16) (p1 : Vec F S1x256x64 .bf16) (p2 : Vec F S1x256x64 .bf16) (p3 : Vec F S1x256x64 .bf16) (p4 : Vec F S1x256x64 .bf16) (p5 : Vec F S1x256x64 .bf16) (p6 : Vec F S1x256x64 .bf16) (p7 : Vec F S1x256x64 .bf16) (p8 : Vec F S1x256x64 .bf16) (p9 : Vec F S1x256x64 .bf16) (p10 : Vec F S1x256x64 .bf16) (p11 : Vec F S1x256x64 .bf16) (y : S12x256x64.Idx) :
    ∃ pc ∈ ([⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] : List (View.Piece (Elt F) S12x256x64 .bf16)), y ∈ pc.1.set :=
  View.cover_of_tiled [⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] S1x256x64.size (by rfl) y

set_option maxHeartbeats 1000000 in
/-- One run of the body on whole blocks: the inputs stay, every output block gets the stated contents. -/
theorem sound_kernel1 (c : Dev nD) (E : Set ℕ) (i : grid1.Coords) (arg1 : Memref sig .tc .vmem S256x768 .f32) (harg1 : arg1.IsWhole) (arg2 : Memref sig .tc .vmem S768x2304 .f32) (harg2 : arg2.IsWhole) (arg3 : Memref sig .tc .vmem S12x256x64 .f32) (harg3 : arg3.IsWhole) (arg4 : Memref sig .tc .vmem S12x256x64 .f32) (harg4 : arg4.IsWhole) (arg5 : Memref sig .tc .vmem S12x256x64 .bf16) (harg5 : arg5.IsWhole)
    (x0 : Vec F S256x768 .f32) (x1 : Vec F S768x2304 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1) ∗ owns (c : Thread nD τ) arg5 fullShare (out1_4 x0 x1)) -∗ K ⟨⟩))
      ⊢ wp frame (wpE (defs₀ (F := F)) Variants.none c none) E (cc1__qkv_kernel i arg1 harg1 arg2 harg2 arg3 harg3 arg4 harg4 arg5 harg5) K := by
  simp only [cc1__qkv_kernel_eq_skeleton]; unfold cc1__qkv_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover1_2 _ _ _ _ _ _ _ _ _ _ _ _)).trans ?_
    rfl
  isplitl [H3]
  · iexists _; isplitr
    swap; · iexact H3
    ipureintro
    refine (View.read_writes_eq_canon _ _ _ (cover1_3 _ _ _ _ _ _ _ _ _ _ _ _)).trans ?_
    rfl
  iexists _; isplitr
  swap; · iexact H4
  ipureintro
  refine (View.read_writes_eq_canon _ _ _ (cover1_4 _ _ _ _ _ _ _ _ _ _ _ _)).trans ?_
  rfl

/-- The proof data of this call: the arrays at its start, what each block holds after the body at a point, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
    | ⟨4, _⟩ => out1_4 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is entered with at a point. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body leaves at a point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point takes `bodyPre` to `bodyPost`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

/-- The body's obligation at every point, as the library asks for it. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdeal.Attn.lean ====
/- The attention call of `KernelIdeal`: one head at each of 12 grid points, the keys in two halves. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at grid point `t`, read off its array's contents `V` at the call's start. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x2048x64 := Rect.unit (s := S1x2048x64) ![0, 0, 0] S1x2048x64.size inb_S1x2048x64_S1x2048x64_0_0_0
abbrev r2_1 : Rect S1x1024x64 := Rect.unit (s := S1x1024x64) ![0, 0, 0] S1x1024x64.size inb_S1x1024x64_S1x1024x64_0_0_0
abbrev r2_2 : Rect S1x2048x1024 := Rect.unit (s := S1x2048x1024) ![0, 0, 0] S1x2048x1024.size inb_S1x2048x1024_S1x2048x1024_0_0_0
abbrev r2_3 : Rect S1x1x16x1024 := Rect.unit (s := S1x1x16x1024) ![0, 0, 0, 0] S1x1x16x1024.size inb_S1x1x16x1024_S1x1x16x1024_0_0_0_0

/-- What the body leaves in this output block, from the blocks it reads. -/
def out2_9 (x0 : Vec F S1x2048x64 .f32) (x1 : Vec F S1x1024x64 .f32) (x2 : Vec F S1x1024x64 .f32) (x3 : Vec F S1x1024x64 .bf16) (x4 : Vec F S1x1024x64 .bf16) (x5 : Vec F S1x2048x1024 .f32) (x6 : Vec F S1x2048x1024 .f32) (x7 : Vec F S1x1x16x1024 .f32) (x8 : Vec F S1x1x16x1024 .f32) : Vec F S1x2048x64 .bf16 :=
  View.canon [⟨r2_0, k2_pay1 (k2_pay4 (View.ld x0 r2_0) (View.ld x1 r2_1) (View.ld x5 r2_2) (View.ld x7 r2_3)) (k2_pay5 (View.ld x0 r2_0) (View.ld x1 r2_1) (View.ld x5 r2_2) (View.ld x7 r2_3) (View.ld x3 r2_1)) (k2_pay6 (View.ld x0 r2_0) (View.ld x2 r2_1) (View.ld x6 r2_2)) (View.ld x8 r2_3) (View.ld x4 r2_1)⟩]

theorem cover2_9 (p0 : Vec F S1x2048x64 .bf16) (y : S1x2048x64.Idx) :
    ∃ pc ∈ ([⟨r2_0, p0⟩] : List (View.Piece (Elt F) S1x2048x64 .bf16)), y ∈ pc.1.set :=
  View.cover_of_tiled [⟨r2_0, p0⟩] S1x2048x64.size (by rfl) y

set_option maxHeartbeats 1000000 in
/-- One run of the body on whole blocks: the inputs stay, every output block gets the stated contents. -/
theorem sound_kernel2 (c : Dev nD) (E : Set ℕ) (i : grid2.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x2048x1024 .f32) (harg7 : arg7.IsWhole) (arg8 : Memref sig .tc .vmem S1x2048x1024 .f32) (harg8 : arg8.IsWhole) (arg9 : Memref sig .tc .vmem S1x1x16x1024 .f32) (harg9 : arg9.IsWhole) (arg10 : Memref sig .tc .vmem S1x1x16x1024 .f32) (harg10 : arg10.IsWhole) (arg11 : Memref sig .tc .vmem S1x2048x64 .bf16) (harg11 : arg11.IsWhole)
    (x0 : Vec F S1x2048x64 .f32) (x1 : Vec F S1x1024x64 .f32) (x2 : Vec F S1x1024x64 .f32) (x3 : Vec F S1x1024x64 .bf16) (x4 : Vec F S1x1024x64 .bf16) (x5 : Vec F S1x2048x1024 .f32) (x6 : Vec F S1x2048x1024 .f32) (x7 : Vec F S1x1x16x1024 .f32) (x8 : Vec F S1x1x16x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out2_9 x0 x1 x2 x3 x4 x5 x6 x7 x8)) -∗ K ⟨⟩))
      ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11) K := by
  simp only [cc2__attn_kernel_eq_skeleton]; unfold cc2__attn_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-- The proof data of this call: the arrays at its start, what each block holds after the body at a point, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is entered with at a point. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What the body leaves at a point. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point takes `bodyPre` to `bodyPost`. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row2 (t : Fin cfg2.N) :
    defs₀ (F := F) .tc cfg2.body (cfg2.bodyArgs t (cfg2.slots t)) = bodyAt2 t := by
  unfold defs₀; rw [Defs.onTc_tc]

/-- The body's obligation at every point, as the library asks for it. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.KernelIdeal.Out.lean ====
/- The output projection call of `KernelIdeal`: 8 blocks of rows by 3 groups of four heads, the output block added to over the groups. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at grid point `t`, read off its array's contents `V` at the call's start. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The test of the body's first branch: this is the first group of heads. -/
abbrev cond3_0 (i : grid3.Coords) : Prop := k3_cond1 i = 1#1
/-- The first test in closed form. -/
theorem hcond3_0 : ∀ t : Fin cfg3.N, cond3_0 (grid3.coords t) ↔ t.val % 3 = 0 :=
  (fun t => by
    have ht : t.val < 24 := Nat.lt_of_lt_of_eq t.isLt N_3
    have e0 : (grid3.coords t 0).val = t.val / 3 % 8 := Pipeline.Grid.coords_val t 0 (by decide) rfl
    have e1 : (grid3.coords t 1).val = t.val / 1 % 3 := Pipeline.Grid.coords_val t 1 (by decide) rfl
    simp only [cond3_0, k3_cond1, e0, e1]
    word_cmp
   : ∀ t : Fin grid3.N, cond3_0 (grid3.coords t) ↔ t.val % 3 = 0)

/-- The test of the body's second branch: this is a later group of heads. -/
abbrev cond3_1 (i : grid3.Coords) : Prop := k3_cond2 i = 1#1
/-- The second test in closed form. -/
theorem hcond3_1 : ∀ t : Fin cfg3.N, cond3_1 (grid3.coords t) ↔ 1 ≤ t.val % 3 :=
  (by decide +kernel : ∀ t : Fin grid3.N, cond3_1 (grid3.coords t) ↔ 1 ≤ t.val % 3)

theorem liveAt3_0 : ∀ t : Fin cfg3.N, cfg3.idle 0 (grid3.coords t) = false := fun _ => rfl
theorem liveAt3_1 : ∀ t : Fin cfg3.N, cfg3.idle 1 (grid3.coords t) = false := fun _ => rfl
/-- Whether the output block holds nothing of the body's yet, position by position: at every third position. -/
def freshTab3_2 : ℕ → Bool
  | 0 => true
  | n + 1 => (0x924924 : ℕ).testBit n
theorem freshTab3_2_step : ∀ t : Fin cfg3.N,
    freshTab3_2 (t.val + 1) = ((cfg3.win 2).flush t || (cfg3.idle 2 (cfg3.grid.coords t) && freshTab3_2 t.val)) := by decide +kernel
theorem fresh3_2_eq (t : Fin cfg3.N) : cfg3.fresh 2 t.val = freshTab3_2 t.val :=
  Pipeline.Cfg.fresh_tab cfg3 2 freshTab3_2 rfl freshTab3_2_step t.val (Nat.le_of_lt t.isLt)
theorem liveAt3_2_A : ∀ t : Fin cfg3.N, cond3_0 (grid3.coords t) → ¬cond3_1 (grid3.coords t) → cfg3.idle 2 (grid3.coords t) = false := by decide +kernel
theorem liveAt3_2_B : ∀ t : Fin cfg3.N, ¬cond3_0 (grid3.coords t) → cond3_1 (grid3.coords t) → cfg3.idle 2 (grid3.coords t) = false := by decide +kernel
theorem notFresh3_2_B : ∀ t : Fin cfg3.N, ¬cond3_0 (grid3.coords t) → cond3_1 (grid3.coords t) → cfg3.fresh 2 t.val = false := by
  intro t; rw [fresh3_2_eq t]; revert t; decide +kernel

abbrev VO3_2 : View sig .tc .vmem S256x768 .f32 := (Memref.whole cc3_stg2_0 : Memref sig .tc .vmem S256x768 .f32).view
abbrev ms3_0 (t : Fin cfg3.N) : Memref sig .tc .vmem S4x256x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x768 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x768 .f32 := win3_2.stage (cfg3.slots t 2)
abbrev hs3_2 (t : Fin cfg3.N) : (ms3_2 t).IsWhole := hstage3_2 ((cfg3.slots t 2).cast nbuf3_2)

set_option maxHeartbeats 1000000 in
/-- The body at a first group of heads: what it stores into the output block, with the run that stores it. -/
noncomputable def kernelRun3_A (c : Dev nD) (i : grid3.Coords) (arg2 : Memref sig .tc .vmem S4x256x64 .bf16) (harg2 : arg2.IsWhole) (arg3 : Memref sig .tc .vmem S256x768 .bf16) (harg3 : arg3.IsWhole) (arg4 : Memref sig .tc .vmem S256x768 .f32) (harg4 : arg4.IsWhole) (hc0 : cond3_0 i) (hc1 : ¬cond3_1 i)
    (x0 : Vec F S4x256x64 .bf16) (x1 : Vec F S256x768 .bf16) :
    { L2 : List (View.Piece (Elt F) S256x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc3__out_kernel i arg2 harg2 arg3 harg3 arg4 harg4) K } := by
  refine ⟨?_, fun E K => ?run⟩
  case run =>
    simp only [cc3__out_kernel_eq_skeleton]; unfold cc3__out_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at a later group: it reads the output block `xo2` first; what it stores, with the run that stores it. -/
noncomputable def kernelRun3_B (c : Dev nD) (i : grid3.Coords) (arg2 : Memref sig .tc .vmem S4x256x64 .bf16) (harg2 : arg2.IsWhole) (arg3 : Memref sig .tc .vmem S256x768 .bf16) (harg3 : arg3.IsWhole) (arg4 : Memref sig .tc .vmem S256x768 .f32) (harg4 : arg4.IsWhole) (hc0 : ¬cond3_0 i) (hc1 : cond3_1 i)
    (x0 : Vec F S4x256x64 .bf16) (x1 : Vec F S256x768 .bf16) (xo2 : Vec F S256x768 .f32) :
    { L2 : List (View.Piece (Elt F) S256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc3__out_kernel i arg2 harg2 arg3 harg3 arg4 harg4) K } := by
  refine ⟨?_, fun E K => ?run⟩
  case run =>
    simp only [cc3__out_kernel_eq_skeleton]; unfold cc3__out_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

theorem cover3_A_2 (c : Dev nD) (i : grid3.Coords) (arg2 : Memref sig .tc .vmem S4x256x64 .bf16) (harg2 : arg2.IsWhole) (arg3 : Memref sig .tc .vmem S256x768 .bf16) (harg3 : arg3.IsWhole) (arg4 : Memref sig .tc .vmem S256x768 .f32) (harg4 : arg4.IsWhole) (hc0 : cond3_0 i) (hc1 : ¬cond3_1 i)
    (x0 : Vec F S4x256x64 .bf16) (x1 : Vec F S256x768 .bf16) (y : S256x768.Idx) :
    ∃ pc ∈ (kernelRun3_A c i arg2 harg2 arg3 harg3 arg4 harg4 hc0 hc1 x0 x1).1, y ∈ pc.1.set :=
  View.cover_of_tiledL (kernelRun3_A c i arg2 harg2 arg3 harg3 arg4 harg4 hc0 hc1 x0 x1).1 S256x768.size (by sl_kernel_rfl) y

/-- The output block after the body at a first group of heads. -/
def out3_A_2 (c : Dev nD) (i : grid3.Coords) (arg2 : Memref sig .tc .vmem S4x256x64 .bf16) (harg2 : arg2.IsWhole) (arg3 : Memref sig .tc .vmem S256x768 .bf16) (harg3 : arg3.IsWhole) (arg4 : Memref sig .tc .vmem S256x768 .f32) (harg4 : arg4.IsWhole) (hc0 : cond3_0 i) (hc1 : ¬cond3_1 i)
    (x0 : Vec F S4x256x64 .bf16) (x1 : Vec F S256x768 .bf16) : Vec F S256x768 .f32 :=
  VO3_2.read (Elt F) (VO3_2.writes (Elt F) VO3_2.junk (kernelRun3_A c i arg2 harg2 arg3 harg3 arg4 harg4 hc0 hc1 x0 x1).1)

theorem cover3_B_2 (c : Dev nD) (i : grid3.Coords) (arg2 : Memref sig .tc .vmem S4x256x64 .bf16) (harg2 : arg2.IsWhole) (arg3 : Memref sig .tc .vmem S256x768 .bf16) (harg3 : arg3.IsWhole) (arg4 : Memref sig .tc .vmem S256x768 .f32) (harg4 : arg4.IsWhole) (hc0 : ¬cond3_0 i) (hc1 : cond3_1 i)
    (x0 : Vec F S4x256x64 .bf16) (x1 : Vec F S256x768 .bf16) (xo2 : Vec F S256x768 .f32) (y : S256x768.Idx) :
    ∃ pc ∈ (kernelRun3_B c i arg2 harg2 arg3 harg3 arg4 harg4 hc0 hc1 x0 x1 xo2).1, y ∈ pc.1.set :=
  View.cover_of_tiledL (kernelRun3_B c i arg2 harg2 arg3 harg3 arg4 harg4 hc0 hc1 x0 x1 xo2).1 S256x768.size (by sl_kernel_rfl) y

/-- The output block after the body at a later group of heads. -/
def out3_B_2 (c : Dev nD) (i : grid3.Coords) (arg2 : Memref sig .tc .vmem S4x256x64 .bf16) (harg2 : arg2.IsWhole) (arg3 : Memref sig .tc .vmem S256x768 .bf16) (harg3 : arg3.IsWhole) (arg4 : Memref sig .tc .vmem S256x768 .f32) (harg4 : arg4.IsWhole) (hc0 : ¬cond3_0 i) (hc1 : cond3_1 i)
    (x0 : Vec F S4x256x64 .bf16) (x1 : Vec F S256x768 .bf16) (xo2 : Vec F S256x768 .f32) : Vec F S256x768 .f32 :=
  VO3_2.read (Elt F) (VO3_2.writes (Elt F) VO3_2.junk (kernelRun3_B c i arg2 harg2 arg3 harg3 arg4 harg4 hc0 hc1 x0 x1 xo2).1)

/-- The output block after every position: begun at the first group of a block of rows, added to at the others. -/
def outsAt3 (c : Dev nD) : (n : ℕ) → n < cfg3.N → Vec F S256x768 .f32
  | 0, hn => out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩)
  | n + 1, hn =>
    if h0 : (n + 1) % 3 = 0 then
      if h1 : 1 ≤ (n + 1) % 3 then
        False.elim (by have hN : n + 1 < 24 := lt_of_lt_of_eq hn (show cfg3.N = 24 from N_3); omega)
      else
        out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩)
    else
      if h1 : 1 ≤ (n + 1) % 3 then
        out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn))
      else
        False.elim (by have hN : n + 1 < 24 := lt_of_lt_of_eq hn (show cfg3.N = 24 from N_3); omega)

theorem outsAt3_A (c : Dev nD) (t : Fin cfg3.N) (h0 : t.val % 3 = 0) (h1 : ¬1 ≤ t.val % 3) :
    outsAt3 V c t.val t.isLt = out3_A_2 c (grid3.coords t) (ms3_0 t) (hs3_0 t) (ms3_1 t) (hs3_1 t) (ms3_2 t) (hs3_2 t) ((hcond3_0 t).mpr h0) (fun h => h1 ((hcond3_1 t).mp h)) (iblk3 V c 0 t) (iblk3 V c 1 t) := by
  obtain ⟨n, hn⟩ := t
  cases n with
  | zero => exact rfl
  | succ n => exact (dif_pos h0).trans ((dif_neg h1).trans rfl)

theorem outsAt3_B (c : Dev nD) (t : Fin cfg3.N) (h0 : ¬t.val % 3 = 0) (h1 : 1 ≤ t.val % 3) :
    outsAt3 V c t.val t.isLt = out3_B_2 c (grid3.coords t) (ms3_0 t) (hs3_0 t) (ms3_1 t) (hs3_1 t) (ms3_2 t) (hs3_2 t) (fun h => h0 ((hcond3_0 t).mp h)) ((hcond3_1 t).mpr h1) (iblk3 V c 0 t) (iblk3 V c 1 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The proof data of this call: the arrays at its start, what each block holds after the body at a point, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- The output block carries over where the body leaves it alone (no such position is met). -/
theorem hcarry3_2 (c : Dev nD) : ∀ (t : Fin cfg3.N) (_ : t.val ≠ 0), cfg3.idle 2 (grid3.coords t) = true → cfg3.fresh 2 t.val = false →
    (dat3 V c).after 2 t = (dat3 V c).after 2 ⟨t.val - 1, by omega⟩ := by
  intro t _ hi _
  have hN : t.val < 24 := lt_of_lt_of_eq t.isLt (show cfg3.N = 24 from N_3)
  rw [after3_2, after3_2]
  by_cases h0 : t.val % 3 = 0
  · by_cases h1 : 1 ≤ t.val % 3
    · exfalso; omega
    · rw [liveAt3_2_A t ((hcond3_0 t).mpr h0) (fun h => h1 ((hcond3_1 t).mp h))] at hi
      exact absurd hi Bool.false_ne_true
  · by_cases h1 : 1 ≤ t.val % 3
    · rw [liveAt3_2_B t (fun h => h0 ((hcond3_0 t).mp h)) ((hcond3_1 t).mpr h1)] at hi
      exact absurd hi Bool.false_ne_true
    · exfalso; omega
/-- At a later group the output block still holds what the position before left. -/
theorem before3_2_B (c : Dev nD) (t : Fin cfg3.N) (h0 : ¬t.val % 3 = 0) (h1 : 1 ≤ t.val % 3) (d) :
    (dat3 V c).before 2 t d = (outsAt3 V c (t.val - 1) (Nat.lt_of_le_of_lt (Nat.sub_le _ _) t.isLt)) := by
  rw [Dat.before_out_traj _ 2 rfl (fun _ _ => rfl) (hcarry3_2 V c) t.val t rfl d,
    if_neg (by rw [notFresh3_2_B t (fun h => h0 ((hcond3_0 t).mp h)) ((hcond3_1 t).mpr h1)]; exact Bool.false_ne_true)]
  dsimp only [dat3]

/-- What the body is entered with at a point. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- What the body leaves at a point. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 800000 in
/-- The body at any point takes `bodyPre` to `bodyPost`. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl]
  have hN : t.val < 24 := lt_of_lt_of_eq t.isLt (show cfg3.N = 24 from N_3)
  by_cases h0 : t.val % 3 = 0
  · by_cases h1 : 1 ≤ t.val % 3
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2_A t ((hcond3_0 t).mpr h0) (fun h => h1 ((hcond3_1 t).mp h))], after3_2]
      rw [outsAt3_A V c t h0 h1]
      unfold out3_A_2
      iintro ⟨HΦ, Ho, ⟨%d0, H0⟩, ⟨%d1, H1⟩, ⟨%d2, H2⟩⟩
      iapply ((kernelRun3_A c (grid3.coords t) _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover3_A_2 c _ _ _ _ _ _ _ _ _ _ _)
  · by_cases h1 : 1 ≤ t.val % 3
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2_B t (fun h => h0 ((hcond3_0 t).mp h)) ((hcond3_1 t).mpr h1)], after3_2]
      rw [outsAt3_B V c t h0 h1]
      simp only [before3_2_B V c t h0 h1]
      unfold out3_B_2
      iintro ⟨HΦ, Ho, ⟨%d0, H0⟩, ⟨%d1, H1⟩, ⟨%d2, H2⟩⟩
      iapply ((kernelRun3_B c (grid3.coords t) _ _ _ _ _ _ (fun h => h0 ((hcond3_0 t).mp h)) ((hcond3_1 t).mpr h1) (iblk3 V c 0 t) (iblk3 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover3_B_2 c _ _ _ _ _ _ _ _ _ _ _ _)
    · exfalso; omega

theorem defs₀_row3 (t : Fin cfg3.N) :
    defs₀ (F := F) .tc cfg3.body (cfg3.bodyArgs t (cfg3.slots t)) = bodyAt3 t := by
  unfold defs₀; rw [Defs.onTc_tc]

/-- The body's obligation at every point, as the library asks for it. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Hand

end
-- ==== Proof.KernelIdeal.Run.lean ====
/- The whole run of `KernelIdeal`: its four calls and the host operations between them, from the launch to the return. -/
module

public import proofs.«01_k».proof.Proof.KernelIdeal.Mask
public import proofs.«01_k».proof.Proof.KernelIdeal.Qkv
public import proofs.«01_k».proof.Proof.KernelIdeal.Attn
public import proofs.«01_k».proof.Proof.KernelIdeal.Out

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6]

theorem hostOps1_fresh : (hostOps1 : List (HloOp τ sig (Elt F))).Forall fun op => op.fresh = ∅ := by
  simp only [List.Forall]; repeat' constructor
abbrev hostOps1_W : List (Ref sig .tc) := [main_v1, main_v2, main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v8]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v10]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

/-- The buffers at the start. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- The buffers after the masking call. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers after the host has laid out the projection's operands. -/
abbrev W2 : Dev nD → Valuation τ sig (Elt F) := fun c => StableHlo.after hostOps1 (W1 m ρ c)
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
abbrev V2 : (c : Dev nD) → (b : Ref sig .tc) → Buf (Elt F) ((c : Thread nD τ).loc b) := fun c b => W2 m ρ c b
/-- The buffers after the projection call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers after the attention call. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact (dat2 (V3 m ρ) c).withArrays_arrAt launch₀2.sharedIn _ (A_eq2 (V3 m ρ) c) w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The buffers after the host has rounded the output weights. -/
abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)
abbrev V5 : (c : Dev nD) → (b : Ref sig .tc) → Buf (Elt F) ((c : Thread nD τ).loc b) := fun c b => W5 m ρ c b
/-- The buffers after the output projection call. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- The buffers at the end. -/
abbrev W7 : Dev nD → Valuation τ sig (Elt F) := fun c => StableHlo.after hostOps4 (W6 m ρ c)
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)

abbrev adm : (p : Fin 4) → (pcfgs (F := F) p).Adm := fun p => (cfgs p).toPCfg_adm
/-- The proof data of the four calls, each at the contents it is entered with. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
abbrev L : GSem nD τ sig → Finset Unit := fun _ => ∅
abbrev lv : GSem nD τ sig → Unit → ℕ := fun _ _ => 0
/-- What rides beside the buffers: the random generator's register, and nothing owed. -/
abbrev R (c : Dev nD) : sProp 𝕄 := iprop((∃ r, prngReg c r) ∗ ∃ W, owes (c : Thread nD τ) (0 : CellTallies nD τ sig Unit) W)
/-- A stretch of host operations as a segment of the program. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every buffer as at the end. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- The masking call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection call as a segment. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's seven segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)),
    .region (reg3 m ρ),
    .host (hseg hostOps4 hostOps4_sub hostOps4_fresh (W6 m ρ)) ]
/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run of the program ends, with the arguments unchanged, every counter at zero, and the result as in `W7`. -/
theorem run_end : θ_run defs (onTc (τ := τ) (main (F := F))) ⟨m, fun _ => 0, ρ⟩ (fun r => (∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩), funext fun g => hz g (.inr (no_unscoped g.2))⟩)

/-- Every run of the program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_end m ρ)

end Cert.KernelIdeal.Hand

end
-- ==== Proof.KernelIdeal.MaskValue.lean ====
/- The masking call of `KernelIdeal` read at an index over the extended reals: zero where the score is within the bound the bisection ends with,
   `⊥` elsewhere. -/
module

public import proofs.«01_k».proof.Proof.KernelIdeal.Mask
public import proofs.«01_k».proof.Proof.KernelIdeal.Bisect
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen

/-- What the masking call stores. -/
theorem mask_apply (v0 : Vec Ideal S192x2048 .f32) (v1 : Vec Ideal S192x1 .f32) (g : Fin 192) (j : Fin 2048) :
    k0_pay8 v0 v1 (ix2 g j) = if v0 (ix2 g j) ≤ v1 (ix2 g 0) then (0 : EReal) else ⊥ := by
  pointwise [k0_pay8]
  rw [show (Named.named (F := Ideal) κ "mask" 0xF149F2CA#32 : Ideal .f32) = (⊥ : EReal) from IdealRules.named_const.ideal_named_scalar _ _ _ _ rfl]

theorem ld0_0 (x : Vec Ideal S192x2048 .f32) : View.ld x r0_0 = x :=
  View.ld_unit_zero (funext fun a => by fin_cases a <;> rfl) _ _

variable (V : (c : Dev nD) → (b : Ref sig .tc) → Buf (Elt Ideal) ((c : Thread nD τ).loc b))

theorem index0 : ∀ t : Fin cfg0.N, win0_0.index t 0 = 0 ∧ win0_0.index t 1 = 0 :=
  (by decide +kernel : ∀ t : Fin grid0.N, win0_0.index t 0 = 0 ∧ win0_0.index t 1 = 0)

theorem N0 : cfg0.N = 1 := by decide +kernel
theorem disjoint0_0 : ∀ t t' : Fin cfg0.N, (cfg0.win 0).flush t = true → (cfg0.win 0).flush t' = true → t ≠ t' →
    Disjoint ((cfg0.win 0).blk t).view.set ((cfg0.win 0).blk t').view.set :=
  fun t t' _ _ hne => absurd (Fin.ext (by have := N0; omega)) hne
theorem flush0_0 : ∀ t : Fin cfg0.N, (cfg0.win 0).flush t = true :=
  (by decide +kernel : ∀ t : Fin grid0.N, win0_0.flush t = true)

/-- The array of masks. -/
theorem mask_at (c : Dev nD) (g : Fin 192) (j : Fin 2048) :
    ((dat0 V c).arrAt 0 cfg0.N : Vec Ideal S192x2048 .f32) (ix2 g j)
      = if (scores : Vec Ideal S192x2048 .f32) (ix2 g j) ≤ (bisect (scores : Vec Ideal S192x2048 .f32) 44).2 (ix2 g 0) then (0 : EReal) else ⊥ := by
  let t : Fin cfg0.N := ⟨0, by rw [N0]; omega⟩
  have hi := index0 t
  have he : ((cfg0.win 0).blk t).view.emb (ix2 g j) = (ix2 g j : S192x2048.Idx) := funext fun i => Fin.ext (by
    match i with
    | ⟨0, _⟩ => exact win0_0.rect_emb_val_of_index_zero t 0 hi.1 (ix2 g j)
    | ⟨1, _⟩ => exact win0_0.rect_emb_val_of_index_zero t 1 hi.2 (ix2 g j))
  have e := (dat0 V c).arrAt_emb_eq_flushed 0 disjoint0_0 t (flush0_0 t) (ix2 g j)
  rw [he] at e
  refine e.trans ?_
  show (dat0 V c).after 0 t (ix2 g j) = _
  rw [after0_0]
  unfold out0_0
  rw [View.canon_unit_zero (funext fun a => by fin_cases a <;> rfl)]
  rw [ld0_0]
  exact mask_apply _ _ g j

end Cert.KernelIdeal.Hand
-- ==== Proof.KernelIdeal.QkvValue.lean ====
/- The projection call of `KernelIdeal` read at an index over the extended reals: each of its three result arrays is a product
   of the activations and the permuted weights, and the queries carry the scale. -/
module

public import proofs.«01_k».proof.Proof.KernelIdeal.Qkv
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen

/-- Row `a`, column `b` of the product of a block of activations with the weights. -/
def prodAt (x0 : Vec Ideal S256x768 .f32) (x1 : Vec Ideal S768x2304 .f32) (a : Fin 256) (b : Fin 2304) : EReal :=
  ∑ k : Fin 768, (x0 (ix2 a k) : EReal) * x1 (ix2 k b)

/-- The product that the three results are cut from. -/
theorem full_apply (x0 : Vec Ideal S256x768 .f32) (x1 : Vec Ideal S768x2304 .f32) (a : Fin 256) (b : Fin 2304) :
    k1_pay7 x0 x1 (ix2 a b) = prodAt x0 x1 a b := by
  unfold prodAt
  pointwise [k1_pay7]

theorem ld_x (x0 : Vec Ideal S256x768 .f32) : View.ld x0 r1_0 = x0 :=
  View.ld_unit_zero (funext fun a => by fin_cases a <;> rfl) _ _
theorem ld_w (x1 : Vec Ideal S768x2304 .f32) : View.ld x1 r1_1 = x1 :=
  View.ld_unit_zero (funext fun a => by fin_cases a <;> rfl) _ _

/-- Reading a slice of the product through one of the twelve stores. -/
theorem prodAt_congr (x0 : Vec Ideal S256x768 .f32) (x1 : Vec Ideal S768x2304 .f32) {a a' : Fin 256} {b b' : Fin 2304}
    (ha : a.val = a'.val) (hb : b.val = b'.val) : prodAt x0 x1 a b = prodAt x0 x1 a' b' := by
  rw [Fin.ext ha, Fin.ext hb]

/-- The block of queries: 64 columns of the product for each head, scaled. -/
theorem out1_2_apply (x0 : Vec Ideal S256x768 .f32) (x1 : Vec Ideal S768x2304 .f32) (h : Fin 12) (a : Fin 256) (d : Fin 64) :
    out1_2 x0 x1 (ix3 h a d) = prodAt x0 x1 a ⟨h.val * 64 + d.val, by omega⟩ * Ideal.ofBits .f32 0x3E000000#32 := by
  unfold out1_2 k1_pay43
  rw [ld_x, ld_w]
  refine View.canon_apply_of_pieces (S := S12x256x64) (Val := Elt Ideal) (e := .f32)
    (fun y => prodAt x0 x1 (y 1) ⟨(y 0).val * 64 + (y 2).val, by have := (y 0).isLt; have := (y 2).isLt; simp at *; omega⟩ * Ideal.ofBits .f32 0x3E000000#32)
    _ ?_ (ix3 h a d) (cover1_2 _ _ _ _ _ _ _ _ _ _ _ _ _)
  intro pc hpc
  simp only [List.mem_cons, List.not_mem_nil, or_false] at hpc
  rcases hpc with rfl | rfl | rfl | rfl | rfl | rfl | rfl | rfl | rfl | rfl | rfl | rfl
  all_goals
    intro y
    idx_vars y
    pointwise [k1_pay1, k1_pay2, k1_pay3, k1_pay4, k1_pay5, k1_pay6, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42]
    rw [full_apply]
    refine congrArg (· * _) (prodAt_congr x0 x1 ?_ ?_) <;>
      simp [Rect.emb_apply, ix3] <;> omega

/-- The block of keys: 64 columns of the product for each head. -/
theorem out1_3_apply (x0 : Vec Ideal S256x768 .f32) (x1 : Vec Ideal S768x2304 .f32) (h : Fin 12) (a : Fin 256) (d : Fin 64) :
    out1_3 x0 x1 (ix3 h a d) = prodAt x0 x1 a ⟨h.val * 64 + d.val + 768, by omega⟩ := by
  unfold out1_3 k1_pay43
  rw [ld_x, ld_w]
  refine View.canon_apply_of_pieces (S := S12x256x64) (Val := Elt Ideal) (e := .f32)
    (fun y => prodAt x0 x1 (y 1) ⟨(y 0).val * 64 + (y 2).val + 768, by have := (y 0).isLt; have := (y 2).isLt; simp at *; omega⟩)
    _ ?_ (ix3 h a d) (cover1_3 _ _ _ _ _ _ _ _ _ _ _ _ _)
  intro pc hpc
  simp only [List.mem_cons, List.not_mem_nil, or_false] at hpc
  rcases hpc with rfl | rfl | rfl | rfl | rfl | rfl | rfl | rfl | rfl | rfl | rfl | rfl
  all_goals
    intro y
    idx_vars y
    pointwise [k1_pay1, k1_pay2, k1_pay3, k1_pay4, k1_pay5, k1_pay6, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42]
    rw [full_apply]
    refine prodAt_congr x0 x1 ?_ ?_ <;>
      simp [Rect.emb_apply, ix3] <;> omega

/-- The block of values: 64 columns of the product for each head. -/
theorem out1_4_apply (x0 : Vec Ideal S256x768 .f32) (x1 : Vec Ideal S768x2304 .f32) (h : Fin 12) (a : Fin 256) (d : Fin 64) :
    out1_4 x0 x1 (ix3 h a d) = prodAt x0 x1 a ⟨h.val * 64 + d.val + 1536, by omega⟩ := by
  unfold out1_4 k1_pay43
  rw [ld_x, ld_w]
  refine View.canon_apply_of_pieces (S := S12x256x64) (Val := Elt Ideal) (e := .bf16)
    (fun y => prodAt x0 x1 (y 1) ⟨(y 0).val * 64 + (y 2).val + 1536, by have := (y 0).isLt; have := (y 2).isLt; simp at *; omega⟩)
    _ ?_ (ix3 h a d) (cover1_4 _ _ _ _ _ _ _ _ _ _ _ _ _)
  intro pc hpc
  simp only [List.mem_cons, List.not_mem_nil, or_false] at hpc
  rcases hpc with rfl | rfl | rfl | rfl | rfl | rfl | rfl | rfl | rfl | rfl | rfl | rfl
  all_goals
    intro y
    idx_vars y
    pointwise [k1_pay1, k1_pay2, k1_pay3, k1_pay4, k1_pay5, k1_pay6, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42]
    rw [full_apply]
    refine prodAt_congr x0 x1 ?_ ?_ <;>
      simp [Rect.emb_apply, ix3] <;> omega

end Cert.KernelIdeal.Hand
-- ==== Proof.KernelIdeal.QkvArray.lean ====
/- The three arrays that the projection call of `KernelIdeal` leaves, read at an index from the arrays it was given. -/
module

public import proofs.«01_k».proof.Proof.KernelIdeal.QkvValue

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen

variable (V : (c : Dev nD) → (b : Ref sig .tc) → Buf (Elt Ideal) ((c : Thread nD τ).loc b))

/-- Which block each window shows at a point of the projection's grid. -/
theorem index1 : ∀ t : Fin cfg1.N,
    (win1_0.index t 0 = t.val ∧ win1_0.index t 1 = 0) ∧ (win1_1.index t 0 = 0 ∧ win1_1.index t 1 = 0)
    ∧ (win1_2.index t 0 = 0 ∧ win1_2.index t 1 = t.val ∧ win1_2.index t 2 = 0)
    ∧ (win1_3.index t 0 = 0 ∧ win1_3.index t 1 = t.val ∧ win1_3.index t 2 = 0)
    ∧ (win1_4.index t 0 = 0 ∧ win1_4.index t 1 = t.val ∧ win1_4.index t 2 = 0) :=
  (by decide +kernel : ∀ t : Fin grid1.N,
    (win1_0.index t 0 = t.val ∧ win1_0.index t 1 = 0) ∧ (win1_1.index t 0 = 0 ∧ win1_1.index t 1 = 0)
    ∧ (win1_2.index t 0 = 0 ∧ win1_2.index t 1 = t.val ∧ win1_2.index t 2 = 0)
    ∧ (win1_3.index t 0 = 0 ∧ win1_3.index t 1 = t.val ∧ win1_3.index t 2 = 0)
    ∧ (win1_4.index t 0 = 0 ∧ win1_4.index t 1 = t.val ∧ win1_4.index t 2 = 0))

theorem N1 : cfg1.N = 8 := by decide +kernel

/-- The activations' block at a point: 256 rows from the point's. -/
theorem block1_x (c : Dev nD) (t : Fin cfg1.N) (a : Fin 256) (k : Fin 768) (r : Fin 2048) (hr : r.val = t.val * 256 + a.val) :
    iblk1 V c 0 t (ix2 a k) = V c (Pipeline.arrRef spec1 0) (ix2 r k) := by
  refine congrArg (V c (Pipeline.arrRef spec1 0)) (funext fun i => Fin.ext ?_)
  have hi := (index1 t).1
  match i with
  | ⟨0, _⟩ => refine (win1_0.rect_emb_val t (ix2 a k) 0).trans ?_; rw [hi.1]; exact hr.symm
  | ⟨1, _⟩ => refine (win1_0.rect_emb_val t (ix2 a k) 1).trans ?_; rw [hi.2]; show 0 * 768 + k.val = k.val; omega

/-- The weights' block is the whole array at every point. -/
theorem block1_w (c : Dev nD) (t : Fin cfg1.N) (k : Fin 768) (b : Fin 2304) :
    iblk1 V c 1 t (ix2 k b) = V c (Pipeline.arrRef spec1 1) (ix2 k b) := by
  refine congrArg (V c (Pipeline.arrRef spec1 1)) (funext fun i => Fin.ext ?_)
  have hi := (index1 t).2.1
  match i with
  | ⟨0, _⟩ => exact win1_1.rect_emb_val_of_index_zero t 0 hi.1 (ix2 k b)
  | ⟨1, _⟩ => exact win1_1.rect_emb_val_of_index_zero t 1 hi.2 (ix2 k b)

/-- Row `r` of the activations times column `j` of the permuted weights. -/
def projAt (x : Vec Ideal S2048x768 .f32) (w : Vec Ideal S768x2304 .f32) (r : Fin 2048) (j : Fin 2304) : EReal :=
  ∑ k : Fin 768, (x (ix2 r k) : EReal) * (w (ix2 k j) : EReal)

/-- A block's product is that part of the whole product. -/
theorem prodAt_block (c : Dev nD) (t : Fin cfg1.N) (a : Fin 256) (j : Fin 2304) (r : Fin 2048) (hr : r.val = t.val * 256 + a.val) :
    prodAt (iblk1 V c 0 t) (iblk1 V c 1 t) a j = projAt (V c (Pipeline.arrRef spec1 0)) (V c (Pipeline.arrRef spec1 1)) r j := by
  unfold prodAt projAt
  exact Finset.sum_congr rfl fun k _ => by rw [block1_x V c t a k r hr, block1_w V c t k j]

theorem disjoint1_2 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne ((by decide +kernel : ∀ t t' : Fin grid1.N, win1_2.index t = win1_2.index t' → t = t') t t' h)
theorem disjoint1_3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne ((by decide +kernel : ∀ t t' : Fin grid1.N, win1_3.index t = win1_3.index t' → t = t') t t' h)
theorem disjoint1_4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne ((by decide +kernel : ∀ t t' : Fin grid1.N, win1_4.index t = win1_4.index t' → t = t') t t' h)

theorem flush1 : ∀ t : Fin cfg1.N, (cfg1.win 2).flush t = true ∧ (cfg1.win 3).flush t = true ∧ (cfg1.win 4).flush t = true :=
  (by decide +kernel : ∀ t : Fin grid1.N, win1_2.flush t = true ∧ win1_3.flush t = true ∧ win1_4.flush t = true)

/-- The array of queries. -/
theorem queries_at (c : Dev nD) (h : Fin 12) (r : Fin 2048) (d : Fin 64) :
    ((dat1 V c).arrAt 2 cfg1.N : Vec Ideal S12x2048x64 .f32) (ix3 h r d)
      = projAt (V c (Pipeline.arrRef spec1 0)) (V c (Pipeline.arrRef spec1 1)) r ⟨h.val * 64 + d.val, by omega⟩ * Ideal.ofBits .f32 0x3E000000#32 := by
  have hN := N1
  let t : Fin cfg1.N := ⟨r.val / 256, by omega⟩
  let a : Fin 256 := ⟨r.val % 256, by omega⟩
  have hr : r.val = t.val * 256 + a.val := by simp only [t, a]; omega
  have hi := (index1 t).2.2.1
  have he : ((cfg1.win 2).blk t).view.emb (ix3 h a d) = (ix3 h r d : S12x2048x64.Idx) := funext fun i => Fin.ext (by
    match i with
    | ⟨0, _⟩ => exact win1_2.rect_emb_val_of_index_zero t 0 hi.1 (ix3 h a d)
    | ⟨1, _⟩ => refine (win1_2.rect_emb_val t (ix3 h a d) 1).trans ?_; rw [hi.2.1]; exact hr.symm
    | ⟨2, _⟩ => exact win1_2.rect_emb_val_of_index_zero t 2 hi.2.2 (ix3 h a d))
  have e := (dat1 V c).arrAt_emb_eq_flushed 2 disjoint1_2 t (flush1 t).1 (ix3 h a d)
  rw [he] at e
  refine e.trans ?_
  show (dat1 V c).after 2 t (ix3 h a d) = _
  rw [after1_2]
  refine (out1_2_apply _ _ h a d).trans ?_
  rw [prodAt_block V c t a _ r hr]

/-- The array of keys. -/
theorem keys_at (c : Dev nD) (h : Fin 12) (r : Fin 2048) (d : Fin 64) :
    ((dat1 V c).arrAt 3 cfg1.N : Vec Ideal S12x2048x64 .f32) (ix3 h r d)
      = projAt (V c (Pipeline.arrRef spec1 0)) (V c (Pipeline.arrRef spec1 1)) r ⟨h.val * 64 + d.val + 768, by omega⟩ := by
  have hN := N1
  let t : Fin cfg1.N := ⟨r.val / 256, by omega⟩
  let a : Fin 256 := ⟨r.val % 256, by omega⟩
  have hr : r.val = t.val * 256 + a.val := by simp only [t, a]; omega
  have hi := (index1 t).2.2.2.1
  have he : ((cfg1.win 3).blk t).view.emb (ix3 h a d) = (ix3 h r d : S12x2048x64.Idx) := funext fun i => Fin.ext (by
    match i with
    | ⟨0, _⟩ => exact win1_3.rect_emb_val_of_index_zero t 0 hi.1 (ix3 h a d)
    | ⟨1, _⟩ => refine (win1_3.rect_emb_val t (ix3 h a d) 1).trans ?_; rw [hi.2.1]; exact hr.symm
    | ⟨2, _⟩ => exact win1_3.rect_emb_val_of_index_zero t 2 hi.2.2 (ix3 h a d))
  have e := (dat1 V c).arrAt_emb_eq_flushed 3 disjoint1_3 t (flush1 t).2.1 (ix3 h a d)
  rw [he] at e
  refine e.trans ?_
  show (dat1 V c).after 3 t (ix3 h a d) = _
  rw [after1_3]
  refine (out1_3_apply _ _ h a d).trans ?_
  rw [prodAt_block V c t a _ r hr]

/-- The array of values. -/
theorem values_at (c : Dev nD) (h : Fin 12) (r : Fin 2048) (d : Fin 64) :
    ((dat1 V c).arrAt 4 cfg1.N : Vec Ideal S12x2048x64 .bf16) (ix3 h r d)
      = projAt (V c (Pipeline.arrRef spec1 0)) (V c (Pipeline.arrRef spec1 1)) r ⟨h.val * 64 + d.val + 1536, by omega⟩ := by
  have hN := N1
  let t : Fin cfg1.N := ⟨r.val / 256, by omega⟩
  let a : Fin 256 := ⟨r.val % 256, by omega⟩
  have hr : r.val = t.val * 256 + a.val := by simp only [t, a]; omega
  have hi := (index1 t).2.2.2.2
  have he : ((cfg1.win 4).blk t).view.emb (ix3 h a d) = (ix3 h r d : S12x2048x64.Idx) := funext fun i => Fin.ext (by
    match i with
    | ⟨0, _⟩ => exact win1_4.rect_emb_val_of_index_zero t 0 hi.1 (ix3 h a d)
    | ⟨1, _⟩ => refine (win1_4.rect_emb_val t (ix3 h a d) 1).trans ?_; rw [hi.2.1]; exact hr.symm
    | ⟨2, _⟩ => exact win1_4.rect_emb_val_of_index_zero t 2 hi.2.2 (ix3 h a d))
  have e := (dat1 V c).arrAt_emb_eq_flushed 4 disjoint1_4 t (flush1 t).2.2 (ix3 h a d)
  rw [he] at e
  refine e.trans ?_
  show (dat1 V c).after 4 t (ix3 h a d) = _
  rw [after1_4]
  refine (out1_4_apply _ _ h a d).trans ?_
  rw [prodAt_block V c t a _ r hr]

end Cert.KernelIdeal.Hand
-- ==== Proof.KernelIdeal.AttnValue.lean ====
/- The attention call of `KernelIdeal` read at an index over the extended reals. -/
module

public import proofs.«01_k».proof.Proof.KernelIdeal.Attn
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen

/-- The exponentials of the left half's masked logits. -/
theorem left_apply (v0 : Vec Ideal S1x2048x64 .f32) (v2 : Vec Ideal S1x1024x64 .f32) (v5 : Vec Ideal S1x2048x1024 .f32) (v9 : Vec Ideal S1x1x16x1024 .f32) (r : Fin 2048) (j : Fin 1024) :
    k2_pay3 v0 v2 v5 v9 (ix2 r j)
      = Ideal.exp (∑ x : Fin 64, v0 (ix3 0 r x) * v2 (ix3 0 j x) + v5 (ix3 0 r j) + v9 (ix4 0 0 ⟨r.val / 128, by omega⟩ j)) := by
  pointwise [k2_pay3, k2_pay2]

/-- The right half's logits before the mask. -/
theorem right_apply (v0 : Vec Ideal S1x2048x64 .f32) (v2 : Vec Ideal S1x1024x64 .f32) (v5 : Vec Ideal S1x2048x1024 .f32) (n : Fin 16) (a : Fin 128) (j : Fin 1024) :
    k2_pay6 v0 v2 v5 (ix3 n a j)
      = ∑ x : Fin 64, v0 (ix3 0 ⟨n.val * 128 + a.val, by omega⟩ x) * v2 (ix3 0 j x) + v5 (ix3 0 ⟨n.val * 128 + a.val, by omega⟩ j) := by
  pointwise [k2_pay6, k2_pay2]

/-- The left half's row sums. -/
theorem leftSum_apply (v0 : Vec Ideal S1x2048x64 .f32) (v2 : Vec Ideal S1x1024x64 .f32) (v5 : Vec Ideal S1x2048x1024 .f32) (v9 : Vec Ideal S1x1x16x1024 .f32) (r : Fin 2048) (z : Fin 1) :
    k2_pay4 v0 v2 v5 v9 (ix2 r z) = ∑ x : Fin 1024, k2_pay3 v0 v2 v5 v9 (ix2 r x) := by
  pointwise [k2_pay4]

/-- The left half's weighted values. -/
theorem leftProd_apply (v0 : Vec Ideal S1x2048x64 .f32) (v2 : Vec Ideal S1x1024x64 .f32) (v5 : Vec Ideal S1x2048x1024 .f32) (v9 : Vec Ideal S1x1x16x1024 .f32) (v19 : Vec Ideal S1x1024x64 .bf16) (r : Fin 2048) (d : Fin 64) :
    k2_pay5 v0 v2 v5 v9 v19 (ix2 r d) = ∑ x : Fin 1024, k2_pay3 v0 v2 v5 v9 (ix2 r x) * v19 (ix3 0 x d) := by
  pointwise [k2_pay5]

/-- What the body stores, from the left half's sums and the right half's operands. -/
theorem store_apply (v17 : FVec Ideal S2048x1 .f32) (v21 : FVec Ideal S2048x64 .f32) (v28 : FVec Ideal S16x128x1024 .f32) (v29 : Vec Ideal S1x1x16x1024 .f32) (v39 : Vec Ideal S1x1024x64 .bf16) (z : Fin 1) (r : Fin 2048) (d : Fin 64) :
    k2_pay1 v17 v21 v28 v29 v39 (ix3 z r d)
      = (v21 (ix2 r d) + ∑ x : Fin 1024, Ideal.exp (v28 (ix3 ⟨r.val / 128, by omega⟩ ⟨r.val % 128, by omega⟩ x) + v29 (ix4 0 0 ⟨r.val / 128, by omega⟩ x)) * v39 (ix3 0 x d))
        * Ideal.div 1 (v17 (ix2 r 0) + ∑ x : Fin 1024, Ideal.exp (v28 (ix3 ⟨r.val / 128, by omega⟩ ⟨r.val % 128, by omega⟩ x) + v29 (ix4 0 0 ⟨r.val / 128, by omega⟩ x))) := by
  pointwise [k2_pay1]

theorem ld2_0 (x : Vec Ideal S1x2048x64 .f32) : View.ld x r2_0 = x :=
  View.ld_unit_zero (funext fun a => by fin_cases a <;> rfl) _ _
theorem ld2_1 (x : Vec Ideal S1x1024x64 .f32) : View.ld x r2_1 = x :=
  View.ld_unit_zero (funext fun a => by fin_cases a <;> rfl) _ _
theorem ld2_2 (x : Vec Ideal S1x2048x1024 .f32) : View.ld x r2_2 = x :=
  View.ld_unit_zero (funext fun a => by fin_cases a <;> rfl) _ _
theorem ld2_3 (x : Vec Ideal S1x1x16x1024 .f32) : View.ld x r2_3 = x :=
  View.ld_unit_zero (funext fun a => by fin_cases a <;> rfl) _ _
theorem ld2_1b (x : Vec Ideal S1x1024x64 .bf16) : View.ld x r2_1 = x :=
  View.ld_unit_zero (funext fun a => by fin_cases a <;> rfl) _ _

/-- A masked logit's exponential: query row `r` against key `j` of one head. -/
def weightAt (q k : Vec Ideal S12x2048x64 .f32) (p : Vec Ideal S12x2048x2048 .f32) (am : Vec Ideal S12x1x16x2048 .f32) (h : Fin 12) (r j : Fin 2048) : EReal :=
  Ideal.exp ((∑ x : Fin 64, (q (ix3 h r x) : EReal) * (k (ix3 h j x) : EReal)) + (p (ix3 h r j) : EReal) + (am (ix4 h 0 ⟨r.val / 128, by omega⟩ j) : EReal))

/-- One entry of the attention's result: the weighted values over the sum of the weights. -/
def attnAt (q k : Vec Ideal S12x2048x64 .f32) (v : Vec Ideal S12x2048x64 .bf16) (p : Vec Ideal S12x2048x2048 .f32) (am : Vec Ideal S12x1x16x2048 .f32) (h : Fin 12) (r : Fin 2048) (d : Fin 64) : EReal :=
  (∑ j : Fin 2048, weightAt q k p am h r j * (v (ix3 h j d) : EReal)) * Ideal.div 1 (∑ j : Fin 2048, weightAt q k p am h r j)

/-- A sum over the 2048 keys is the left half's and the right half's. -/
theorem sum_halves (f : Fin 2048 → EReal) :
    ∑ j : Fin 2048, f j = (∑ x : Fin 1024, f ⟨x.val, by omega⟩) + ∑ x : Fin 1024, f ⟨1024 + x.val, by omega⟩ :=
  Fin.sum_univ_add (a := 1024) (b := 1024) f

variable (V : (c : Dev nD) → (b : Ref sig .tc) → Buf (Elt Ideal) ((c : Thread nD τ).loc b))

theorem N2 : cfg2.N = 12 := by decide +kernel

/-- Which block each window shows at a point of the attention's grid: the point is the head. -/
theorem index2 : ∀ t : Fin cfg2.N, (win2_0.index t 0 = t.val ∧ win2_0.index t 1 = 0 ∧ win2_0.index t 2 = 0)
    ∧ (win2_1.index t 0 = t.val ∧ win2_1.index t 1 = 0 ∧ win2_1.index t 2 = 0)
    ∧ (win2_2.index t 0 = t.val ∧ win2_2.index t 1 = 1 ∧ win2_2.index t 2 = 0)
    ∧ (win2_3.index t 0 = t.val ∧ win2_3.index t 1 = 0 ∧ win2_3.index t 2 = 0)
    ∧ (win2_4.index t 0 = t.val ∧ win2_4.index t 1 = 1 ∧ win2_4.index t 2 = 0)
    ∧ (win2_5.index t 0 = t.val ∧ win2_5.index t 1 = 0 ∧ win2_5.index t 2 = 0)
    ∧ (win2_6.index t 0 = t.val ∧ win2_6.index t 1 = 0 ∧ win2_6.index t 2 = 1)
    ∧ (win2_7.index t 0 = t.val ∧ win2_7.index t 1 = 0 ∧ win2_7.index t 2 = 0 ∧ win2_7.index t 3 = 0)
    ∧ (win2_8.index t 0 = t.val ∧ win2_8.index t 1 = 0 ∧ win2_8.index t 2 = 0 ∧ win2_8.index t 3 = 1)
    ∧ (win2_9.index t 0 = t.val ∧ win2_9.index t 1 = 0 ∧ win2_9.index t 2 = 0) :=
  (by decide +kernel : ∀ t : Fin grid2.N, (win2_0.index t 0 = t.val ∧ win2_0.index t 1 = 0 ∧ win2_0.index t 2 = 0)
    ∧ (win2_1.index t 0 = t.val ∧ win2_1.index t 1 = 0 ∧ win2_1.index t 2 = 0)
    ∧ (win2_2.index t 0 = t.val ∧ win2_2.index t 1 = 1 ∧ win2_2.index t 2 = 0)
    ∧ (win2_3.index t 0 = t.val ∧ win2_3.index t 1 = 0 ∧ win2_3.index t 2 = 0)
    ∧ (win2_4.index t 0 = t.val ∧ win2_4.index t 1 = 1 ∧ win2_4.index t 2 = 0)
    ∧ (win2_5.index t 0 = t.val ∧ win2_5.index t 1 = 0 ∧ win2_5.index t 2 = 0)
    ∧ (win2_6.index t 0 = t.val ∧ win2_6.index t 1 = 0 ∧ win2_6.index t 2 = 1)
    ∧ (win2_7.index t 0 = t.val ∧ win2_7.index t 1 = 0 ∧ win2_7.index t 2 = 0 ∧ win2_7.index t 3 = 0)
    ∧ (win2_8.index t 0 = t.val ∧ win2_8.index t 1 = 0 ∧ win2_8.index t 2 = 0 ∧ win2_8.index t 3 = 1)
    ∧ (win2_9.index t 0 = t.val ∧ win2_9.index t 1 = 0 ∧ win2_9.index t 2 = 0))

theorem block2_q (c : Dev nD) (t : Fin cfg2.N) (h : Fin 12) (hh : h.val = t.val) (r : Fin 2048) (x : Fin 64) :
    iblk2 V c 0 t (ix3 (0 : Fin 1) r x) = V c (Pipeline.arrRef spec2 0) (ix3 h r x) := by
  refine congrArg (V c (Pipeline.arrRef spec2 0)) (funext fun i => Fin.ext ?_)
  have hi := (index2 t).1
  match i with
  | ⟨0, _⟩ => refine (win2_0.rect_emb_val t (ix3 (0 : Fin 1) r x) 0).trans ?_; rw [hi.1]; show t.val * 1 + 0 = h.val; omega
  | ⟨1, _⟩ => exact win2_0.rect_emb_val_of_index_zero t 1 hi.2.1 (ix3 (0 : Fin 1) r x)
  | ⟨2, _⟩ => exact win2_0.rect_emb_val_of_index_zero t 2 hi.2.2 (ix3 (0 : Fin 1) r x)

theorem block2_kl (c : Dev nD) (t : Fin cfg2.N) (h : Fin 12) (hh : h.val = t.val) (j : Fin 1024) (x : Fin 64) :
    iblk2 V c 1 t (ix3 (0 : Fin 1) j x) = V c (Pipeline.arrRef spec2 1) (ix3 h ⟨j.val, by omega⟩ x) := by
  refine congrArg (V c (Pipeline.arrRef spec2 1)) (funext fun i => Fin.ext ?_)
  have hi := (index2 t).2.1
  match i with
  | ⟨0, _⟩ => refine (win2_1.rect_emb_val t (ix3 (0 : Fin 1) j x) 0).trans ?_; rw [hi.1]; show t.val * 1 + 0 = h.val; omega
  | ⟨1, _⟩ => exact win2_1.rect_emb_val_of_index_zero t 1 hi.2.1 (ix3 (0 : Fin 1) j x)
  | ⟨2, _⟩ => exact win2_1.rect_emb_val_of_index_zero t 2 hi.2.2 (ix3 (0 : Fin 1) j x)

theorem block2_kr (c : Dev nD) (t : Fin cfg2.N) (h : Fin 12) (hh : h.val = t.val) (j : Fin 1024) (x : Fin 64) :
    iblk2 V c 2 t (ix3 (0 : Fin 1) j x) = V c (Pipeline.arrRef spec2 2) (ix3 h ⟨1024 + j.val, by omega⟩ x) := by
  refine congrArg (V c (Pipeline.arrRef spec2 2)) (funext fun i => Fin.ext ?_)
  have hi := (index2 t).2.2.1
  match i with
  | ⟨0, _⟩ => refine (win2_2.rect_emb_val t (ix3 (0 : Fin 1) j x) 0).trans ?_; rw [hi.1]; show t.val * 1 + 0 = h.val; omega
  | ⟨1, _⟩ => refine (win2_2.rect_emb_val t (ix3 (0 : Fin 1) j x) 1).trans ?_; rw [hi.2.1]; show 1 * 1024 + j.val = 1024 + j.val; omega
  | ⟨2, _⟩ => exact win2_2.rect_emb_val_of_index_zero t 2 hi.2.2 (ix3 (0 : Fin 1) j x)

theorem block2_vl (c : Dev nD) (t : Fin cfg2.N) (h : Fin 12) (hh : h.val = t.val) (j : Fin 1024) (x : Fin 64) :
    iblk2 V c 3 t (ix3 (0 : Fin 1) j x) = V c (Pipeline.arrRef spec2 3) (ix3 h ⟨j.val, by omega⟩ x) := by
  refine congrArg (V c (Pipeline.arrRef spec2 3)) (funext fun i => Fin.ext ?_)
  have hi := (index2 t).2.2.2.1
  match i with
  | ⟨0, _⟩ => refine (win2_3.rect_emb_val t (ix3 (0 : Fin 1) j x) 0).trans ?_; rw [hi.1]; show t.val * 1 + 0 = h.val; omega
  | ⟨1, _⟩ => exact win2_3.rect_emb_val_of_index_zero t 1 hi.2.1 (ix3 (0 : Fin 1) j x)
  | ⟨2, _⟩ => exact win2_3.rect_emb_val_of_index_zero t 2 hi.2.2 (ix3 (0 : Fin 1) j x)

theorem block2_vr (c : Dev nD) (t : Fin cfg2.N) (h : Fin 12) (hh : h.val = t.val) (j : Fin 1024) (x : Fin 64) :
    iblk2 V c 4 t (ix3 (0 : Fin 1) j x) = V c (Pipeline.arrRef spec2 4) (ix3 h ⟨1024 + j.val, by omega⟩ x) := by
  refine congrArg (V c (Pipeline.arrRef spec2 4)) (funext fun i => Fin.ext ?_)
  have hi := (index2 t).2.2.2.2.1
  match i with
  | ⟨0, _⟩ => refine (win2_4.rect_emb_val t (ix3 (0 : Fin 1) j x) 0).trans ?_; rw [hi.1]; show t.val * 1 + 0 = h.val; omega
  | ⟨1, _⟩ => refine (win2_4.rect_emb_val t (ix3 (0 : Fin 1) j x) 1).trans ?_; rw [hi.2.1]; show 1 * 1024 + j.val = 1024 + j.val; omega
  | ⟨2, _⟩ => exact win2_4.rect_emb_val_of_index_zero t 2 hi.2.2 (ix3 (0 : Fin 1) j x)

theorem block2_pl (c : Dev nD) (t : Fin cfg2.N) (h : Fin 12) (hh : h.val = t.val) (r : Fin 2048) (j : Fin 1024) :
    iblk2 V c 5 t (ix3 (0 : Fin 1) r j) = V c (Pipeline.arrRef spec2 5) (ix3 h r ⟨j.val, by omega⟩) := by
  refine congrArg (V c (Pipeline.arrRef spec2 5)) (funext fun i => Fin.ext ?_)
  have hi := (index2 t).2.2.2.2.2.1
  match i with
  | ⟨0, _⟩ => refine (win2_5.rect_emb_val t (ix3 (0 : Fin 1) r j) 0).trans ?_; rw [hi.1]; show t.val * 1 + 0 = h.val; omega
  | ⟨1, _⟩ => exact win2_5.rect_emb_val_of_index_zero t 1 hi.2.1 (ix3 (0 : Fin 1) r j)
  | ⟨2, _⟩ => exact win2_5.rect_emb_val_of_index_zero t 2 hi.2.2 (ix3 (0 : Fin 1) r j)

theorem block2_pr (c : Dev nD) (t : Fin cfg2.N) (h : Fin 12) (hh : h.val = t.val) (r : Fin 2048) (j : Fin 1024) :
    iblk2 V c 6 t (ix3 (0 : Fin 1) r j) = V c (Pipeline.arrRef spec2 6) (ix3 h r ⟨1024 + j.val, by omega⟩) := by
  refine congrArg (V c (Pipeline.arrRef spec2 6)) (funext fun i => Fin.ext ?_)
  have hi := (index2 t).2.2.2.2.2.2.1
  match i with
  | ⟨0, _⟩ => refine (win2_6.rect_emb_val t (ix3 (0 : Fin 1) r j) 0).trans ?_; rw [hi.1]; show t.val * 1 + 0 = h.val; omega
  | ⟨1, _⟩ => exact win2_6.rect_emb_val_of_index_zero t 1 hi.2.1 (ix3 (0 : Fin 1) r j)
  | ⟨2, _⟩ => refine (win2_6.rect_emb_val t (ix3 (0 : Fin 1) r j) 2).trans ?_; rw [hi.2.2]; show 1 * 1024 + j.val = 1024 + j.val; omega

theorem block2_al (c : Dev nD) (t : Fin cfg2.N) (h : Fin 12) (hh : h.val = t.val) (n : Fin 16) (j : Fin 1024) :
    iblk2 V c 7 t (ix4 (0 : Fin 1) (0 : Fin 1) n j) = V c (Pipeline.arrRef spec2 7) (ix4 h 0 n ⟨j.val, by omega⟩) := by
  refine congrArg (V c (Pipeline.arrRef spec2 7)) (funext fun i => Fin.ext ?_)
  have hi := (index2 t).2.2.2.2.2.2.2.1
  match i with
  | ⟨0, _⟩ => refine (win2_7.rect_emb_val t (ix4 (0 : Fin 1) (0 : Fin 1) n j) 0).trans ?_; rw [hi.1]; show t.val * 1 + 0 = h.val; omega
  | ⟨1, _⟩ => exact win2_7.rect_emb_val_of_index_zero t 1 hi.2.1 (ix4 (0 : Fin 1) (0 : Fin 1) n j)
  | ⟨2, _⟩ => exact win2_7.rect_emb_val_of_index_zero t 2 hi.2.2.1 (ix4 (0 : Fin 1) (0 : Fin 1) n j)
  | ⟨3, _⟩ => exact win2_7.rect_emb_val_of_index_zero t 3 hi.2.2.2 (ix4 (0 : Fin 1) (0 : Fin 1) n j)

theorem block2_ar (c : Dev nD) (t : Fin cfg2.N) (h : Fin 12) (hh : h.val = t.val) (n : Fin 16) (j : Fin 1024) :
    iblk2 V c 8 t (ix4 (0 : Fin 1) (0 : Fin 1) n j) = V c (Pipeline.arrRef spec2 8) (ix4 h 0 n ⟨1024 + j.val, by omega⟩) := by
  refine congrArg (V c (Pipeline.arrRef spec2 8)) (funext fun i => Fin.ext ?_)
  have hi := (index2 t).2.2.2.2.2.2.2.2.1
  match i with
  | ⟨0, _⟩ => refine (win2_8.rect_emb_val t (ix4 (0 : Fin 1) (0 : Fin 1) n j) 0).trans ?_; rw [hi.1]; show t.val * 1 + 0 = h.val; omega
  | ⟨1, _⟩ => exact win2_8.rect_emb_val_of_index_zero t 1 hi.2.1 (ix4 (0 : Fin 1) (0 : Fin 1) n j)
  | ⟨2, _⟩ => exact win2_8.rect_emb_val_of_index_zero t 2 hi.2.2.1 (ix4 (0 : Fin 1) (0 : Fin 1) n j)
  | ⟨3, _⟩ => refine (win2_8.rect_emb_val t (ix4 (0 : Fin 1) (0 : Fin 1) n j) 3).trans ?_; rw [hi.2.2.2]; show 1 * 1024 + j.val = 1024 + j.val; omega

theorem disjoint2_9 : ∀ t t' : Fin cfg2.N, (cfg2.win 9).flush t = true → (cfg2.win 9).flush t' = true → t ≠ t' →
    Disjoint ((cfg2.win 9).blk t).view.set ((cfg2.win 9).blk t').view.set :=
  fun t t' _ _ hne => (cfg2.win 9).disjoint_blk fun h => hne ((by decide +kernel : ∀ t t' : Fin grid2.N, win2_9.index t = win2_9.index t' → t = t') t t' h)
theorem flush2_9 : ∀ t : Fin cfg2.N, (cfg2.win 9).flush t = true :=
  (by decide +kernel : ∀ t : Fin grid2.N, win2_9.flush t = true)

/-- The array of attention results. -/
theorem attention_at (c : Dev nD) (q k : Vec Ideal S12x2048x64 .f32) (v : Vec Ideal S12x2048x64 .bf16) (p : Vec Ideal S12x2048x2048 .f32) (am : Vec Ideal S12x1x16x2048 .f32)
    (hq : V c (Pipeline.arrRef spec2 0) = q) (hk : V c (Pipeline.arrRef spec2 1) = k) (hv : V c (Pipeline.arrRef spec2 3) = v)
    (hp : V c (Pipeline.arrRef spec2 5) = p) (ham : V c (Pipeline.arrRef spec2 7) = am)
    (h : Fin 12) (r : Fin 2048) (d : Fin 64) :
    ((dat2 V c).arrAt 9 cfg2.N : Vec Ideal S12x2048x64 .bf16) (ix3 h r d) = attnAt q k v p am h r d := by
  have hN := N2
  let t : Fin cfg2.N := ⟨h.val, by omega⟩
  have hi := (index2 t).2.2.2.2.2.2.2.2.2
  have he : ((cfg2.win 9).blk t).view.emb (ix3 (0 : Fin 1) r d) = (ix3 h r d : S12x2048x64.Idx) := funext fun i => Fin.ext (by
    match i with
    | ⟨0, _⟩ => refine (win2_9.rect_emb_val t (ix3 (0 : Fin 1) r d) 0).trans ?_; rw [hi.1]; show h.val * 1 + 0 = h.val; omega
    | ⟨1, _⟩ => exact win2_9.rect_emb_val_of_index_zero t 1 hi.2.1 (ix3 (0 : Fin 1) r d)
    | ⟨2, _⟩ => exact win2_9.rect_emb_val_of_index_zero t 2 hi.2.2 (ix3 (0 : Fin 1) r d))
  have e := (dat2 V c).arrAt_emb_eq_flushed 9 disjoint2_9 t (flush2_9 t) (ix3 (0 : Fin 1) r d)
  rw [he] at e
  refine e.trans ?_
  show (dat2 V c).after 9 t (ix3 (0 : Fin 1) r d) = _
  rw [after2_9]
  unfold out2_9
  rw [View.canon_unit_zero (funext fun a => by fin_cases a <;> rfl)]
  simp only [ld2_0, ld2_1, ld2_1b, ld2_2, ld2_3]
  rw [store_apply, leftSum_apply, leftProd_apply]
  have hr : (⟨r.val / 128 * 128 + r.val % 128, by omega⟩ : Fin 2048) = r := Fin.ext (by show r.val / 128 * 128 + r.val % 128 = r.val; omega)
  have eL : ∀ x : Fin 1024, k2_pay3 (iblk2 V c 0 t) (iblk2 V c 1 t) (iblk2 V c 5 t) (iblk2 V c 7 t) (ix2 r x) = weightAt q k p am h r ⟨x.val, by omega⟩ := fun x => by
    rw [left_apply]
    unfold weightAt
    subst hq hk hp ham
    rw [block2_pl V c t h rfl, block2_al V c t h rfl, Finset.sum_congr rfl fun y _ => by rw [block2_q V c t h rfl, block2_kl V c t h rfl]]
  have eR : ∀ x : Fin 1024, Ideal.exp (k2_pay6 (iblk2 V c 0 t) (iblk2 V c 2 t) (iblk2 V c 6 t) (ix3 ⟨r.val / 128, by omega⟩ ⟨r.val % 128, by omega⟩ x) + iblk2 V c 8 t (ix4 0 0 ⟨r.val / 128, by omega⟩ x))
      = weightAt q k p am h r ⟨1024 + x.val, by omega⟩ := fun x => by
    rw [right_apply]
    unfold weightAt
    subst hq hk hp ham
    simp only [hr]
    rw [block2_pr V c t h rfl, block2_ar V c t h rfl, Finset.sum_congr rfl fun y _ => by rw [block2_q V c t h rfl, block2_kr V c t h rfl]]
  have vL : ∀ x : Fin 1024, iblk2 V c 3 t (ix3 0 x d) = v (ix3 h ⟨x.val, by omega⟩ d) := fun x => by
    subst hv; exact block2_vl V c t h rfl x d
  have vR : ∀ x : Fin 1024, iblk2 V c 4 t (ix3 0 x d) = v (ix3 h ⟨1024 + x.val, by omega⟩ d) := fun x => by
    subst hv; exact block2_vr V c t h rfl x d
  unfold attnAt
  rw [sum_halves, sum_halves]
  simp only [eL, eR, vL, vR]

end Cert.KernelIdeal.Hand
-- ==== Proof.KernelIdeal.OutValue.lean ====
/- The output projection call of `KernelIdeal` read at an index over the extended reals: three groups of four heads, added up. -/
module

public import proofs.«01_k».proof.Proof.KernelIdeal.Out
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen

/-- The four heads of a group side by side, row `a`, entry `k` of 256. -/
def groupAt (x0 : Vec Ideal S4x256x64 .bf16) (a : Fin 256) (k : Fin 256) : EReal := x0 (ix3 ⟨k.val / 64, by omega⟩ a ⟨k.val % 64, by omega⟩)

/-- A group's product with its rows of the weights. -/
def groupProd (x0 : Vec Ideal S4x256x64 .bf16) (x1 : Vec Ideal S256x768 .bf16) (a : Fin 256) (b : Fin 768) : EReal :=
  ∑ k : Fin 256, groupAt x0 a k * (x1 (ix2 k b) : EReal)

abbrev r3_0 : Rect S4x256x64 := Rect.unit (s := S4x256x64) ![0, 0, 0] S1x256x64.size inb_S4x256x64_S1x256x64_0_0_0
abbrev r3_1 : Rect S4x256x64 := Rect.unit (s := S4x256x64) ![1, 0, 0] S1x256x64.size inb_S4x256x64_S1x256x64_1_0_0
abbrev r3_2 : Rect S4x256x64 := Rect.unit (s := S4x256x64) ![2, 0, 0] S1x256x64.size inb_S4x256x64_S1x256x64_2_0_0
abbrev r3_3 : Rect S4x256x64 := Rect.unit (s := S4x256x64) ![3, 0, 0] S1x256x64.size inb_S4x256x64_S1x256x64_3_0_0

theorem cat_apply (x0 : Vec Ideal S4x256x64 .bf16) (x1 : Vec Ideal S256x768 .bf16) (a : Fin 256) (b : Fin 768) :
    k3_pay1 (View.ld x0 r3_0) (View.ld x0 r3_1) (View.ld x0 r3_2) (View.ld x0 r3_3) x1 (ix2 a b) = groupProd x0 x1 a b := by
  unfold groupProd
  pointwise [k3_pay1]
  refine Finset.sum_congr rfl fun k _ => congrArg (· * _) ?_
  unfold groupAt
  have e : ∀ (p p' : Fin 4) (d d' : Fin 64), p.val = p'.val → d.val = d'.val → x0 (ix3 p a d) = x0 (ix3 p' a d') :=
    fun p p' d d' h h' => by rw [Fin.ext h, Fin.ext h']
  split_ifs <;> exact e _ _ _ _ (by simp; omega) (by simp; omega)

theorem zero3 : (![0, 0] : Fin 2 → Nat) = fun _ => 0 := funext fun a => by fin_cases a <;> rfl

/-- What the first group leaves in the output block. -/
theorem out3_A_apply (c : Dev nD) (i : grid3.Coords) (a2 : Memref sig .tc .vmem S4x256x64 .bf16) (h2 : a2.IsWhole) (a3 : Memref sig .tc .vmem S256x768 .bf16) (h3 : a3.IsWhole) (a4 : Memref sig .tc .vmem S256x768 .f32) (h4 : a4.IsWhole) (hc0 : cond3_0 i) (hc1 : ¬cond3_1 i)
    (x0 : Vec Ideal S4x256x64 .bf16) (x1 : Vec Ideal S256x768 .bf16) (a : Fin 256) (b : Fin 768) :
    out3_A_2 c i a2 h2 a3 h3 a4 h4 hc0 hc1 x0 x1 (ix2 a b) = groupProd x0 x1 a b := by
  unfold out3_A_2
  rw [View.read_writes_eq_canon _ _ _ (cover3_A_2 c i a2 h2 a3 h3 a4 h4 hc0 hc1 x0 x1)]
  unfold kernelRun3_A
  dsimp only
  sl_unfold_words
  rw [View.canon_unit_zero (S := S256x768) zero3]
  simp only [View.readAt_eq_ld, h2.read_unread, h3.read_unread, View.ld_unit_zero (S := S256x768) zero3]
  exact cat_apply x0 x1 a b

/-- What a later group leaves in it: the block's contents plus the group's product. -/
theorem out3_B_apply (c : Dev nD) (i : grid3.Coords) (a2 : Memref sig .tc .vmem S4x256x64 .bf16) (h2 : a2.IsWhole) (a3 : Memref sig .tc .vmem S256x768 .bf16) (h3 : a3.IsWhole) (a4 : Memref sig .tc .vmem S256x768 .f32) (h4 : a4.IsWhole) (hc0 : ¬cond3_0 i) (hc1 : cond3_1 i)
    (x0 : Vec Ideal S4x256x64 .bf16) (x1 : Vec Ideal S256x768 .bf16) (xo : Vec Ideal S256x768 .f32) (a : Fin 256) (b : Fin 768) :
    out3_B_2 c i a2 h2 a3 h3 a4 h4 hc0 hc1 x0 x1 xo (ix2 a b) = xo (ix2 a b) + groupProd x0 x1 a b := by
  unfold out3_B_2
  rw [View.read_writes_eq_canon _ _ _ (cover3_B_2 c i a2 h2 a3 h3 a4 h4 hc0 hc1 x0 x1 xo)]
  unfold kernelRun3_B
  dsimp only
  sl_unfold_words
  rw [View.canon_unit_zero (S := S256x768) zero3]
  unfold k3_pay2
  simp only [View.readAt_eq_ld, h2.read_unread, h3.read_unread, h4.read_unread, View.ld_unit_zero (S := S256x768) zero3, shapeCast_self]
  exact congrArg (xo (ix2 a b) + ·) (cat_apply x0 x1 a b)

variable (V : (c : Dev nD) → (b : Ref sig .tc) → Buf (Elt Ideal) ((c : Thread nD τ).loc b))

theorem N3 : cfg3.N = 24 := by decide +kernel

/-- Which block each window shows at a point: row block `t / 3`, group `t % 3`. -/
theorem index3 : ∀ t : Fin cfg3.N, (win3_0.index t 0 = t.val % 3 ∧ win3_0.index t 1 = t.val / 3 ∧ win3_0.index t 2 = 0)
    ∧ (win3_1.index t 0 = t.val % 3 ∧ win3_1.index t 1 = 0) ∧ (win3_2.index t 0 = t.val / 3 ∧ win3_2.index t 1 = 0) :=
  (by decide +kernel : ∀ t : Fin grid3.N, (win3_0.index t 0 = t.val % 3 ∧ win3_0.index t 1 = t.val / 3 ∧ win3_0.index t 2 = 0)
    ∧ (win3_1.index t 0 = t.val % 3 ∧ win3_1.index t 1 = 0) ∧ (win3_2.index t 0 = t.val / 3 ∧ win3_2.index t 1 = 0))

theorem block3_a (c : Dev nD) (t : Fin cfg3.N) (p : Fin 4) (a : Fin 256) (d : Fin 64) (h : Fin 12) (r : Fin 2048)
    (hh : h.val = t.val % 3 * 4 + p.val) (hr : r.val = t.val / 3 * 256 + a.val) :
    iblk3 V c 0 t (ix3 p a d) = V c (Pipeline.arrRef spec3 0) (ix3 h r d) := by
  refine congrArg (V c (Pipeline.arrRef spec3 0)) (funext fun i => Fin.ext ?_)
  have hi := (index3 t).1
  match i with
  | ⟨0, _⟩ => refine (win3_0.rect_emb_val t (ix3 p a d) 0).trans ?_; rw [hi.1]; exact hh.symm
  | ⟨1, _⟩ => refine (win3_0.rect_emb_val t (ix3 p a d) 1).trans ?_; rw [hi.2.1]; exact hr.symm
  | ⟨2, _⟩ => exact win3_0.rect_emb_val_of_index_zero t 2 hi.2.2 (ix3 p a d)

theorem block3_w (c : Dev nD) (t : Fin cfg3.N) (k : Fin 256) (b : Fin 768) (j : Fin 768) (hj : j.val = t.val % 3 * 256 + k.val) :
    iblk3 V c 1 t (ix2 k b) = V c (Pipeline.arrRef spec3 1) (ix2 j b) := by
  refine congrArg (V c (Pipeline.arrRef spec3 1)) (funext fun i => Fin.ext ?_)
  have hi := (index3 t).2.1
  match i with
  | ⟨0, _⟩ => refine (win3_1.rect_emb_val t (ix2 k b) 0).trans ?_; rw [hi.1]; exact hj.symm
  | ⟨1, _⟩ => exact win3_1.rect_emb_val_of_index_zero t 1 hi.2 (ix2 k b)

/-- Entry `k` of 768 of row `r`: head `k / 64`, feature `k % 64`. -/
def mergedAt (a3 : Vec Ideal S12x2048x64 .bf16) (r : Fin 2048) (k : Fin 768) : EReal := a3 (ix3 ⟨k.val / 64, by omega⟩ r ⟨k.val % 64, by omega⟩)

/-- One entry of the output projection. -/
def outAt (a3 : Vec Ideal S12x2048x64 .bf16) (w : Vec Ideal S768x768 .bf16) (r : Fin 2048) (b : Fin 768) : EReal :=
  ∑ k : Fin 768, mergedAt a3 r k * (w (ix2 k b) : EReal)

/-- The same sum, one group of 256 entries. -/
def outGroup (a3 : Vec Ideal S12x2048x64 .bf16) (w : Vec Ideal S768x768 .bf16) (r : Fin 2048) (b : Fin 768) (g : Fin 3) : EReal :=
  ∑ k : Fin 256, mergedAt a3 r ⟨g.val * 256 + k.val, by omega⟩ * (w (ix2 ⟨g.val * 256 + k.val, by omega⟩ b) : EReal)

theorem outAt_groups (a3 : Vec Ideal S12x2048x64 .bf16) (w : Vec Ideal S768x768 .bf16) (r : Fin 2048) (b : Fin 768) :
    outAt a3 w r b = outGroup a3 w r b 0 + outGroup a3 w r b 1 + outGroup a3 w r b 2 := by
  unfold outAt outGroup
  generalize hf : (fun k : Fin 768 => mergedAt a3 r k * (w (ix2 k b) : EReal)) = f
  have e : ∀ g : Fin 3, (∑ k : Fin 256, mergedAt a3 r ⟨g.val * 256 + k.val, by omega⟩ * (w (ix2 ⟨g.val * 256 + k.val, by omega⟩ b) : EReal))
      = ∑ k : Fin 256, f ⟨g.val * 256 + k.val, by omega⟩ := fun g => Finset.sum_congr rfl fun k _ => by rw [← hf]
  rw [e, e, e, Fin.sum_univ_add (a := 512) (b := 256) f, Fin.sum_univ_add (a := 256) (b := 256) fun i => f (Fin.castAdd 256 i)]
  refine congrArg₂ (· + ·) (congrArg₂ (· + ·) ?_ ?_) ?_ <;>
    exact Finset.sum_congr rfl fun k _ => congrArg f (Fin.ext (by simp; try omega))

theorem groupProd_block (c : Dev nD) (a3 : Vec Ideal S12x2048x64 .bf16) (w : Vec Ideal S768x768 .bf16)
    (ha : V c (Pipeline.arrRef spec3 0) = a3) (hw : V c (Pipeline.arrRef spec3 1) = w) (t : Fin cfg3.N) (a : Fin 256) (b : Fin 768)
    (r : Fin 2048) (hr : r.val = t.val / 3 * 256 + a.val) (g : Fin 3) (hg : g.val = t.val % 3) :
    groupProd (iblk3 V c 0 t) (iblk3 V c 1 t) a b = outGroup a3 w r b g := by
  subst ha hw
  unfold groupProd outGroup groupAt mergedAt
  refine Finset.sum_congr rfl fun k _ => ?_
  rw [block3_a V c t ⟨k.val / 64, by omega⟩ a ⟨k.val % 64, by omega⟩ ⟨(g.val * 256 + k.val) / 64, by omega⟩ r (by simp only; omega) hr,
    block3_w V c t k b ⟨g.val * 256 + k.val, by omega⟩ (by simp only; omega)]
  have e : (⟨(g.val * 256 + k.val) % 64, by omega⟩ : Fin 64) = ⟨k.val % 64, by omega⟩ := Fin.ext (by simp only; omega)
  rw [e]

theorem disjoint3_2 : ∀ t t' : Fin cfg3.N, (cfg3.win 2).flush t = true → (cfg3.win 2).flush t' = true → t ≠ t' →
    Disjoint ((cfg3.win 2).blk t).view.set ((cfg3.win 2).blk t').view.set :=
  fun t t' hf hf' hne => (cfg3.win 2).disjoint_blk fun h => hne
    ((by decide +kernel : ∀ t t' : Fin grid3.N, win3_2.flush t = true → win3_2.flush t' = true → win3_2.index t = win3_2.index t' → t = t') t t' hf hf' h)
theorem flush3_2 : ∀ t : Fin cfg3.N, t.val % 3 = 2 → (cfg3.win 2).flush t = true :=
  (by decide +kernel : ∀ t : Fin grid3.N, t.val % 3 = 2 → win3_2.flush t = true)

/-- The array the output projection leaves. -/
theorem output_at (c : Dev nD) (a3 : Vec Ideal S12x2048x64 .bf16) (w : Vec Ideal S768x768 .bf16)
    (ha : V c (Pipeline.arrRef spec3 0) = a3) (hw : V c (Pipeline.arrRef spec3 1) = w) (r : Fin 2048) (b : Fin 768) :
    ((dat3 V c).arrAt 2 cfg3.N : Vec Ideal S2048x768 .f32) (ix2 r b) = outAt a3 w r b := by
  have hN := N3
  let t0 : Fin cfg3.N := ⟨r.val / 256 * 3, by omega⟩
  let t1 : Fin cfg3.N := ⟨r.val / 256 * 3 + 1, by omega⟩
  let t2 : Fin cfg3.N := ⟨r.val / 256 * 3 + 2, by omega⟩
  let a : Fin 256 := ⟨r.val % 256, by omega⟩
  have hi := (index3 t2).2.2
  have he : ((cfg3.win 2).blk t2).view.emb (ix2 a b) = (ix2 r b : S2048x768.Idx) := funext fun i => Fin.ext (by
    match i with
    | ⟨0, _⟩ =>
      refine (win3_2.rect_emb_val t2 (ix2 a b) 0).trans ?_; rw [hi.1]
      show (r.val / 256 * 3 + 2) / 3 * 256 + r.val % 256 = r.val; omega
    | ⟨1, _⟩ => exact win3_2.rect_emb_val_of_index_zero t2 1 hi.2 (ix2 a b))
  have e := (dat3 V c).arrAt_emb_eq_flushed 2 disjoint3_2 t2 (flush3_2 t2 (by simp only [t2]; omega)) (ix2 a b)
  rw [he] at e
  refine e.trans ?_
  show (dat3 V c).after 2 t2 (ix2 a b) = _
  rw [after3_2]
  have s0 : outsAt3 V c t0.val t0.isLt (ix2 a b) = outGroup a3 w r b 0 := by
    rw [outsAt3_A V c t0 (by simp only [t0]; omega) (by simp only [t0]; omega), out3_A_apply]
    exact groupProd_block V c a3 w ha hw t0 a b r (by simp only [t0, a]; omega) 0 (by simp only [t0]; show 0 = _; omega)
  have s1 : outsAt3 V c t1.val t1.isLt (ix2 a b) = outGroup a3 w r b 0 + outGroup a3 w r b 1 := by
    rw [outsAt3_B V c t1 (by simp only [t1]; omega) (by simp only [t1]; omega), out3_B_apply]
    exact congrArg₂ (· + ·) s0 (groupProd_block V c a3 w ha hw t1 a b r (by simp only [t1, a]; omega) 1 (by simp only [t1]; show 1 = _; omega))
  rw [outAt_groups, outsAt3_B V c t2 (by simp only [t2]; omega) (by simp only [t2]; omega), out3_B_apply]
  exact congrArg₂ (· + ·) s1 (groupProd_block V c a3 w ha hw t2 a b r (by simp only [t2, a]; omega) 2 (by simp only [t2]; show 2 = _; omega))

end Cert.KernelIdeal.Hand
-- ==== Proof.Spec.lean ====
/- The attention's mathematics over the extended reals, free of both programs: the kernel's masked sum over all 2048 keys, and the
   reference's softmax over the 256 kept keys of a window, agree where activations, the weights of queries and keys, and the bias are real numbers. -/
module

public import Idealize.ShloMosaic.Lib.IdealHost
public import Idealize.ShloMosaic.Lib.Pointwise

@[expose] public section

noncomputable section

namespace Cert.Spec

open Idealize.ShloMosaic

/-- The queries' scale, as both programs write it. -/
abbrev scale : EReal := Ideal.ofBits .f32 0x3E000000#32

theorem scale_real : ∃ s : ℝ, scale = (s : EReal) := ⟨_, by simp [scale, Ideal.ofBits, Ideal.ieee]; rfl⟩

/-- A finite sum of real numbers, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A positive real factor taken into a sum of extended reals. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

variable (X : Fin 2048 → Fin 768 → EReal) (Wq : Fin 768 → Fin 2304 → EReal) (P : Fin 12 → Fin 2048 → Fin 2048 → EReal)

/-- The column of the weights for feature `j` of the queries (`s = 0`) or of the keys (`s = 1`). -/
def column (s : Fin 2) (j : Fin 768) : Fin 2304 := ⟨j.val * 3 + s.val, by omega⟩

/-- Query (`s = 0`), key (1) or value (2) of head `h` at row `r`, feature `d`: column `(h * 64 + d) * 3 + s` of the weights. -/
def proj (s : Fin 3) (h : Fin 12) (r : Fin 2048) (d : Fin 64) : EReal :=
  ∑ k : Fin 768, X r k * Wq k ⟨(h.val * 64 + d.val) * 3 + s.val, by omega⟩

/-- The kernel's weight of key `j` for row `r`: the exponential of the logit plus the mask's entry. -/
def weight (M : EReal) (h : Fin 12) (r j : Fin 2048) : EReal :=
  Ideal.exp ((∑ d : Fin 64, (proj X Wq 0 h r d * scale) * proj X Wq 1 h j d) + P h r j + M)

/-- The kernel's attention: every key weighed, the sum multiplied by the reciprocal of the weights' sum. -/
def kernelAttn (M : Fin 2048 → EReal) (h : Fin 12) (r : Fin 2048) (d : Fin 64) : EReal :=
  (∑ j : Fin 2048, weight X Wq P (M j) h r j * proj X Wq 2 h j d) * Ideal.div 1 (∑ j : Fin 2048, weight X Wq P (M j) h r j)

/-- The reference's logit of key `j` for row `r`. -/
def logit (h : Fin 12) (r j : Fin 2048) : EReal :=
  (∑ d : Fin 64, proj X Wq 0 h r d * proj X Wq 1 h j d) * scale + P h r j

/-- The reference's attention over the kept keys `κ`, every logit lowered by `top`. -/
def refAttn (κ : Fin 256 → Fin 2048) (top : EReal) (h : Fin 12) (r : Fin 2048) (d : Fin 64) : EReal :=
  ∑ z : Fin 256, Ideal.div (Ideal.exp (logit X Wq P h r (κ z) - top)) (∑ y : Fin 256, Ideal.exp (logit X Wq P h r (κ y) - top))
    * proj X Wq 2 h (κ z) d

section
variable {X Wq P}
variable (hX : ∀ r k, ∃ a : ℝ, X r k = (a : EReal))
variable (hW : ∀ (s : Fin 2) (k : Fin 768) (j : Fin 768), ∃ a : ℝ, Wq k (column s j) = (a : EReal))
variable (hP : ∀ h r j, ∃ a : ℝ, P h r j = (a : EReal))
include hX hW

/-- Queries and keys are real. -/
theorem proj_real (s : Fin 2) (h : Fin 12) (r : Fin 2048) (d : Fin 64) : ∃ a : ℝ, proj X Wq (s.castLE (by decide)) h r d = (a : EReal) := by
  choose x hx using hX
  choose w hw using hW
  refine ⟨∑ k : Fin 768, x r k * w s k ⟨h.val * 64 + d.val, by omega⟩, ?_⟩
  unfold proj
  rw [coe_sum]
  refine Finset.sum_congr rfl fun k _ => ?_
  rw [hx, EReal.coe_mul, ← hw]
  rfl

include hP

/-- The kernel scales the queries and the reference scales the products: one real number either way. -/
theorem logit_real (h : Fin 12) (r j : Fin 2048) : ∃ l : ℝ, logit X Wq P h r j = (l : EReal)
    ∧ (∑ d : Fin 64, (proj X Wq 0 h r d * scale) * proj X Wq 1 h j d) + P h r j = (l : EReal) := by
  choose p hp using proj_real hX hW
  have hp0 : ∀ h r d, proj X Wq 0 h r d = (p 0 h r d : EReal) := hp 0
  have hp1 : ∀ h r d, proj X Wq 1 h r d = (p 1 h r d : EReal) := hp 1
  obtain ⟨s, hs⟩ := scale_real
  obtain ⟨b, hb⟩ := hP h r j
  refine ⟨(∑ d : Fin 64, p 0 h r d * p 1 h j d) * s + b, ?_, ?_⟩
  · unfold logit
    rw [hs, hb, EReal.coe_add, EReal.coe_mul, coe_sum]
    refine congrArg (· * (s : EReal) + (b : EReal)) (Finset.sum_congr rfl fun d _ => ?_)
    rw [hp0, hp1, EReal.coe_mul]
  · rw [hs, hb, EReal.coe_add, Finset.sum_mul, coe_sum]
    refine congrArg (· + (b : EReal)) (Finset.sum_congr rfl fun d _ => ?_)
    rw [hp0, hp1, ← EReal.coe_mul, ← EReal.coe_mul]
    exact congrArg _ (by ring)

/-- The two attentions agree: a masked key weighs nothing, so the kernel's sums run over the kept keys, and lowering every logit
    by the same real number changes neither quotient. -/
theorem attn_eq (κ : Fin 256 → Fin 2048) (hκ : Function.Injective κ) (M : Fin 2048 → EReal)
    (hM : ∀ j, M j = if ∃ z, κ z = j then (0 : EReal) else ⊥) (top : EReal) (h : Fin 12) (r : Fin 2048) (d : Fin 64)
    (htop : ∃ m : ℝ, top = (m : EReal)) :
    kernelAttn X Wq P M h r d = refAttn X Wq P κ top h r d := by
  classical
  obtain ⟨m, rfl⟩ := htop
  choose l hl hk using logit_real hX hW hP h r
  have hw : ∀ j, weight X Wq P (M j) h r j = ((if ∃ z, κ z = j then Real.exp (l j) else 0 : ℝ) : EReal) := fun j => by
    unfold weight
    rw [hk, hM]
    split_ifs
    · rw [add_zero, Ideal.exp_coe]
    · rw [EReal.add_bot, Ideal.exp_bot, EReal.coe_zero]
  have hsum : ∀ f : Fin 2048 → EReal, (∑ j, (if ∃ z, κ z = j then f j else 0)) = ∑ z, f (κ z) := fun f => by
    rw [← Finset.sum_filter, ← Finset.sum_image (f := f) (s := Finset.univ) (g := κ) fun a _ b _ e => hκ e]
    exact Finset.sum_congr (by ext j; simp) fun _ _ => rfl
  have hD : 0 < ∑ z, Real.exp (l (κ z)) := Finset.sum_pos (fun z _ => Real.exp_pos _) ⟨0, Finset.mem_univ _⟩
  have hD' : 0 < ∑ z, Real.exp (l (κ z) - m) := Finset.sum_pos (fun z _ => Real.exp_pos _) ⟨0, Finset.mem_univ _⟩
  have eD : (∑ j, weight X Wq P (M j) h r j) = ((∑ z, Real.exp (l (κ z)) : ℝ) : EReal) := by
    rw [coe_sum, ← hsum fun j => (Real.exp (l j) : EReal)]
    refine Finset.sum_congr rfl fun j _ => (hw j).trans ?_
    split_ifs <;> rfl
  have eN : (∑ j, weight X Wq P (M j) h r j * proj X Wq 2 h j d) = ∑ z, (Real.exp (l (κ z)) : EReal) * proj X Wq 2 h (κ z) d := by
    rw [← hsum fun j => (Real.exp (l j) : EReal) * proj X Wq 2 h j d]
    refine Finset.sum_congr rfl fun j _ => ?_
    rw [hw]
    split_ifs
    · rfl
    · rw [EReal.coe_zero, zero_mul]
  have eS : (∑ y, Ideal.exp (logit X Wq P h r (κ y) - (m : EReal))) = ((∑ z, Real.exp (l (κ z) - m) : ℝ) : EReal) := by
    rw [coe_sum]
    exact Finset.sum_congr rfl fun z _ => by rw [hl, ← EReal.coe_sub, Ideal.exp_coe]
  have eE : (∑ z, Real.exp (l (κ z) - m)) = (∑ z, Real.exp (l (κ z))) / Real.exp m := by
    rw [Finset.sum_div]; exact Finset.sum_congr rfl fun z _ => Real.exp_sub _ _
  unfold kernelAttn refAttn
  rw [eN, eD, eS, Ideal.div_coe hD.ne', one_mul, sum_mul_coe _ _ _ (one_div_pos.mpr hD).le]
  refine Finset.sum_congr rfl fun z _ => ?_
  rw [hl, ← EReal.coe_sub, Ideal.exp_coe, Ideal.div_coe hD'.ne', mul_right_comm, ← EReal.coe_mul, ← EReal.coe_mul]
  refine congrArg (fun c : ℝ => (c : EReal) * _) ?_
  rw [eE, Real.exp_sub]
  have := Real.exp_pos m
  field_simp
end

/-- One entry of the result: the heads side by side times a column of the output weights. -/
def result (A : Fin 12 → Fin 2048 → Fin 64 → EReal) (Wo : Fin 768 → Fin 768 → EReal) (r : Fin 2048) (b : Fin 768) : EReal :=
  ∑ k : Fin 768, A ⟨k.val / 64, by omega⟩ r ⟨k.val % 64, by omega⟩ * Wo k b

end Cert.Spec
-- ==== Proof.KernelIdeal.EndValue.lean ====
/- The result of `KernelIdeal`, read at an index over the extended reals from the arrays it was given. -/
module

public import proofs.«01_k».proof.Proof.KernelIdeal.Run
public import proofs.«01_k».proof.Proof.KernelIdeal.MaskValue
public import proofs.«01_k».proof.Proof.KernelIdeal.QkvArray
public import proofs.«01_k».proof.Proof.KernelIdeal.AttnValue
public import proofs.«01_k».proof.Proof.KernelIdeal.OutValue
public import proofs.«01_k».proof.Proof.Spec

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen

variable (m : (ℓ : Loc nD τ sig) → Buf (Elt Ideal) ℓ) (ρ : Dev nD → PrngReg)

/-- The arguments the value depends on. -/
abbrev argX (c : Dev nD) : Vec Ideal S1x2048x768 .f32 := m ((c : Thread nD τ).loc main_arg0)
abbrev argPos (c : Dev nD) : Vec Ideal S12x2048x2048 .f32 := m ((c : Thread nD τ).loc main_arg2)
abbrev argW (c : Dev nD) : Vec Ideal S768x2304 .f32 := m ((c : Thread nD τ).loc main_arg3)
abbrev argWout (c : Dev nD) : Vec Ideal S768x768 .f32 := m ((c : Thread nD τ).loc main_arg5)
/-- The scores the kernel draws. -/
abbrev drawnS : Vec Ideal S192x2048 .f32 := scores
/-- The bound the bisection of the scores ends with. -/
abbrev drawnBound : Vec Ideal S192x1 .f32 := (bisect drawnS 44).2

/-- The host's reshapes before the projection call. -/
theorem W2_v1 (c : Dev nD) : (W2 m ρ c (Proc.devRef .tc main_v1) : Vec Ideal S12x1x16x2048 .f32)
    = shapeCast S12x1x16x2048 (W1 m ρ c (Proc.devRef .tc main_v0) : Vec Ideal S192x2048 .f32) shapeCasts_S192x2048_S12x1x16x2048 := by
  show StableHlo.after hostOps1 (W1 m ρ c) (Proc.devRef .tc main_v1) = _
  generalize W1 m ρ c = Y
  after_results
  rfl
theorem W2_v2 (c : Dev nD) : (W2 m ρ c (Proc.devRef .tc main_v2) : Vec Ideal S2048x768 .f32)
    = shapeCast S2048x768 (W1 m ρ c (Proc.devRef .tc main_arg0) : Vec Ideal S1x2048x768 .f32) shapeCasts_S1x2048x768_S2048x768 := by
  show StableHlo.after hostOps1 (W1 m ρ c) (Proc.devRef .tc main_v2) = _
  generalize W1 m ρ c = Y
  after_results
  rfl
theorem W2_v5 (c : Dev nD) : (W2 m ρ c (Proc.devRef .tc main_v5) : Vec Ideal S768x2304 .f32)
    = shapeCast S768x2304 (transpose S768x3x12x64 [0, 3, 1, 2] (shapeCast S768x12x64x3 (W1 m ρ c (Proc.devRef .tc main_arg3) : Vec Ideal S768x2304 .f32) shapeCasts_S768x2304_S768x12x64x3)
        transposes_S768x12x64x3_S768x3x12x64_0_3_1_2) shapeCasts_S768x3x12x64_S768x2304 := by
  show StableHlo.after hostOps1 (W1 m ρ c) (Proc.devRef .tc main_v5) = _
  generalize W1 m ρ c = Y
  after_results
  rfl
theorem W5_v8 (c : Dev nD) (k b : Fin 768) : (W5 m ρ c (Proc.devRef .tc main_v8) : Vec Ideal S768x768 .bf16) (ix2 k b)
    = (W4 m ρ c (Proc.devRef .tc main_arg5) : Vec Ideal S768x768 .f32) (ix2 k b) := by
  show StableHlo.after hostOps3 (W4 m ρ c) (Proc.devRef .tc main_v8) (ix2 k b) = _
  generalize W4 m ρ c = Y
  after_results
  rfl
theorem W7_v10 (c : Dev nD) : (W7 m ρ c (Proc.devRef .tc main_v10) : Vec Ideal S1x2048x768 .f32)
    = shapeCast S1x2048x768 (W6 m ρ c (Proc.devRef .tc main_v9) : Vec Ideal S2048x768 .f32) shapeCasts_S2048x768_S1x2048x768 := by
  show StableHlo.after hostOps4 (W6 m ρ c) (Proc.devRef .tc main_v10) = _
  generalize W6 m ρ c = Y
  after_results
  rfl

/-- The activations without their leading axis. -/
theorem x2_apply (x : Vec Ideal S1x2048x768 .f32) (r : Fin 2048) (k : Fin 768) :
    shapeCast S2048x768 x shapeCasts_S1x2048x768_S2048x768 (ix2 r k) = x (ix3 0 r k) := by
  pointwise

/-- The weights' columns permuted: queries first, then keys, then values, head by head. -/
theorem w_apply (w : Vec Ideal S768x2304 .f32) (k : Fin 768) (s : Fin 3) (h : Fin 12) (d : Fin 64) :
    shapeCast S768x2304 (transpose S768x3x12x64 [0, 3, 1, 2] (shapeCast S768x12x64x3 w shapeCasts_S768x2304_S768x12x64x3)
        transposes_S768x12x64x3_S768x3x12x64_0_3_1_2) shapeCasts_S768x3x12x64_S768x2304 (ix2 k ⟨h.val * 64 + d.val + s.val * 768, by omega⟩)
      = w (ix2 k ⟨(h.val * 64 + d.val) * 3 + s.val, by omega⟩) := by
  pointwise
  exact congrArg w (by rw [show (⟨h.val * 192 + d.val * 3 + s.val, by omega⟩ : Fin 2304) = ⟨(h.val * 64 + d.val) * 3 + s.val, by omega⟩ from Fin.ext (by simp only; omega)])

theorem out_apply (a : Vec Ideal S2048x768 .f32) (z : Fin 1) (r : Fin 2048) (b : Fin 768) :
    shapeCast S1x2048x768 a shapeCasts_S2048x768_S1x2048x768 (ix3 z r b) = a (ix2 r b) := by
  pointwise

theorem am_apply (a : Vec Ideal S192x2048 .f32) (h : Fin 12) (n : Fin 16) (j : Fin 2048) :
    shapeCast S12x1x16x2048 a shapeCasts_S192x2048_S12x1x16x2048 (ix4 h 0 n j) = a (ix2 ⟨h.val * 16 + n.val, by omega⟩ j) := by
  pointwise

/-- The arguments as the specification's functions. -/
abbrev specX (c : Dev nD) : Fin 2048 → Fin 768 → EReal := fun r k => argX m c (ix3 0 r k)
abbrev specW (c : Dev nD) : Fin 768 → Fin 2304 → EReal := fun k j => argW m c (ix2 k j)
abbrev specP (c : Dev nD) : Fin 12 → Fin 2048 → Fin 2048 → EReal := fun h r j => argPos m c (ix3 h r j)
abbrev specWo (c : Dev nD) : Fin 768 → Fin 768 → EReal := fun k b => argWout m c (ix2 k b)
/-- The mask's row for head `h` and the window of row `r`. -/
abbrev specM (h : Fin 12) (r : Fin 2048) : Fin 2048 → EReal := fun j =>
  if drawnS (ix2 ⟨h.val * 16 + r.val / 128, by omega⟩ j) ≤ drawnBound (ix2 ⟨h.val * 16 + r.val / 128, by omega⟩ 0) then 0 else ⊥

theorem W1_arg (c : Dev nD) (a : Ref sig .tc) (ha : a ∈ argRefs) : W1 m ρ c (Proc.devRef .tc a) = m ((c : Thread nD τ).loc a) :=
  W1_args m ρ c a ha

/-- A column of the projection is the specification's. -/
theorem projAt_spec (c : Dev nD) (r : Fin 2048) (s : Fin 3) (h : Fin 12) (d : Fin 64) :
    projAt (V2 m ρ c (Pipeline.arrRef spec1 0)) (V2 m ρ c (Pipeline.arrRef spec1 1)) r ⟨h.val * 64 + d.val + s.val * 768, by omega⟩
      = Spec.proj (specX m c) (specW m c) s h r d := by
  have e0 : (V2 m ρ c (Pipeline.arrRef spec1 0) : Vec Ideal S2048x768 .f32) = _ := W2_v2 m ρ c
  have e1 : (V2 m ρ c (Pipeline.arrRef spec1 1) : Vec Ideal S768x2304 .f32) = _ := W2_v5 m ρ c
  rw [e0, e1, W1_arg m ρ c main_arg0 (by decide), W1_arg m ρ c main_arg3 (by decide)]
  unfold projAt Spec.proj
  exact Finset.sum_congr rfl fun k _ => by rw [x2_apply, w_apply]

theorem V3_q (c : Dev nD) (h : Fin 12) (r : Fin 2048) (d : Fin 64) :
    (V3 m ρ c (Pipeline.arrRef spec2 0) : Vec Ideal S12x2048x64 .f32) (ix3 h r d) = Spec.proj (specX m c) (specW m c) 0 h r d * Spec.scale := by
  refine (congrFun (W3_arr m ρ c 2) (ix3 h r d)).trans ?_
  refine (queries_at (V2 m ρ) c h r d).trans ?_
  exact congrArg (· * Spec.scale) ((congrArg (projAt _ _ r) (Fin.ext (by simp))).trans (projAt_spec m ρ c r 0 h d))

theorem V3_k (c : Dev nD) (h : Fin 12) (r : Fin 2048) (d : Fin 64) :
    (V3 m ρ c (Pipeline.arrRef spec2 1) : Vec Ideal S12x2048x64 .f32) (ix3 h r d) = Spec.proj (specX m c) (specW m c) 1 h r d := by
  refine (congrFun (W3_arr m ρ c 3) (ix3 h r d)).trans ?_
  refine (keys_at (V2 m ρ) c h r d).trans ?_
  exact (congrArg (projAt _ _ r) (Fin.ext (by simp))).trans (projAt_spec m ρ c r 1 h d)

theorem V3_v (c : Dev nD) (h : Fin 12) (r : Fin 2048) (d : Fin 64) :
    (V3 m ρ c (Pipeline.arrRef spec2 3) : Vec Ideal S12x2048x64 .bf16) (ix3 h r d) = Spec.proj (specX m c) (specW m c) 2 h r d := by
  refine (congrFun (W3_arr m ρ c 4) (ix3 h r d)).trans ?_
  refine (values_at (V2 m ρ) c h r d).trans ?_
  exact (congrArg (projAt _ _ r) (Fin.ext (by simp))).trans (projAt_spec m ρ c r 2 h d)

theorem V3_p (c : Dev nD) : (V3 m ρ c (Pipeline.arrRef spec2 5) : Vec Ideal S12x2048x2048 .f32) = argPos m c :=
  W3_args m ρ c main_arg2 (by decide)

theorem V3_am (c : Dev nD) (h : Fin 12) (r j : Fin 2048) :
    (V3 m ρ c (Pipeline.arrRef spec2 7) : Vec Ideal S12x1x16x2048 .f32) (ix4 h 0 ⟨r.val / 128, by omega⟩ j) = specM h r j := by
  have e : (V3 m ρ c (Pipeline.arrRef spec2 7) : Vec Ideal S12x1x16x2048 .f32) = _ :=
    (W3_of m ρ c main_v1 (by decide +kernel)).trans (W2_v1 m ρ c)
  rw [e, am_apply]
  refine (congrFun (W1_arr m ρ c 1) (ix2 _ j)).trans ?_
  exact mask_at (V0 m ρ) c _ j

/-- Attention of arrays holding the specification's projections is the specification's attention. -/
theorem attnAt_spec (q k : Vec Ideal S12x2048x64 .f32) (v : Vec Ideal S12x2048x64 .bf16) (p : Vec Ideal S12x2048x2048 .f32)
    (am : Vec Ideal S12x1x16x2048 .f32) (X : Fin 2048 → Fin 768 → EReal) (Wq : Fin 768 → Fin 2304 → EReal)
    (P : Fin 12 → Fin 2048 → Fin 2048 → EReal) (M : Fin 2048 → EReal) (h : Fin 12) (r : Fin 2048) (d : Fin 64)
    (hq : ∀ x, q (ix3 h r x) = Spec.proj X Wq 0 h r x * Spec.scale) (hk : ∀ j x, k (ix3 h j x) = Spec.proj X Wq 1 h j x)
    (hv : ∀ j, v (ix3 h j d) = Spec.proj X Wq 2 h j d) (hp : ∀ j, p (ix3 h r j) = P h r j)
    (ham : ∀ j, am (ix4 h 0 ⟨r.val / 128, by omega⟩ j) = M j) :
    attnAt q k v p am h r d = Spec.kernelAttn X Wq P M h r d := by
  have ew : ∀ j, weightAt q k p am h r j = Spec.weight X Wq P (M j) h r j := fun j => by
    unfold weightAt Spec.weight
    rw [ham, hp]
    simp only [hq, hk]
  unfold attnAt Spec.kernelAttn
  simp only [ew, hv]

/-- The output product of an array holding the specification's attention. -/
theorem outAt_spec (a3 : Vec Ideal S12x2048x64 .bf16) (w : Vec Ideal S768x768 .bf16) (A : Fin 12 → Fin 2048 → Fin 64 → EReal)
    (Wo : Fin 768 → Fin 768 → EReal) (r : Fin 2048) (b : Fin 768) (ha : ∀ h d, a3 (ix3 h r d) = A h r d)
    (hw : ∀ k, w (ix2 k b) = Wo k b) : outAt a3 w r b = Spec.result A Wo r b := by
  unfold outAt Spec.result mergedAt
  simp only [ha, hw]

/-- The attention call's result is the specification's masked attention. -/
theorem V5_a (c : Dev nD) (h : Fin 12) (r : Fin 2048) (d : Fin 64) :
    (V5 m ρ c (Pipeline.arrRef spec3 0) : Vec Ideal S12x2048x64 .bf16) (ix3 h r d)
      = Spec.kernelAttn (specX m c) (specW m c) (specP m c) (specM h r) h r d := by
  refine (congrFun ((W5_of m ρ c main_v7 (by decide)).trans (W4_arr m ρ c 9)) (ix3 h r d)).trans ?_
  refine (attention_at (V3 m ρ) c _ _ _ _ _ rfl rfl rfl rfl rfl h r d).trans ?_
  exact attnAt_spec _ _ _ _ _ _ _ _ _ h r d (V3_q m ρ c h r) (fun j => V3_k m ρ c h j) (fun j => V3_v m ρ c h j d)
    (fun j => congrFun (V3_p m ρ c) (ix3 h r j)) (V3_am m ρ c h r)

/-- The kernel's result at an index. -/
theorem end_at (c : Dev nD) (z : Fin 1) (r : Fin 2048) (b : Fin 768) :
    (W7 m ρ c (Proc.devRef .tc main_v10) : Vec Ideal S1x2048x768 .f32) (ix3 z r b)
      = Spec.result (fun h r d => Spec.kernelAttn (specX m c) (specW m c) (specP m c) (specM h r) h r d) (specWo m c) r b := by
  refine (congrFun (W7_v10 m ρ c) (ix3 z r b)).trans ?_
  refine (out_apply _ z r b).trans ?_
  refine (congrFun (W6_arr m ρ c 2) (ix2 r b)).trans ?_
  refine (output_at (V5 m ρ) c _ _ rfl rfl r b).trans ?_
  exact outAt_spec _ _ _ _ r b (fun h d => V5_a m ρ c h r d)
    (fun k => (W5_v8 m ρ c k b).trans (congrFun (W4_args m ρ c main_arg5 (by decide)) (ix2 k b)))

end Cert.KernelIdeal.Hand
-- ==== Proof.Select.lean ====
/- Selecting the 256 least of 2048 numbers by bisection. An interval that holds the 256th least number is halved, by counting how many
   numbers lie up to its middle; once it is shorter than the gap between the 256th and the 257th number, the numbers up to its upper end
   are the 256 least. -/
module

public import Idealize.ShloMosaic.Lib.Pointwise

@[expose] public section

noncomputable section

namespace Cert.Select

variable (a : Fin 2048 → ℝ)

/-- How many numbers lie up to `t`. -/
def upTo (t : ℝ) : ℕ := (Finset.univ.filter fun j => a j ≤ t).card

/-- One step of the bisection. -/
def halve (p : ℝ × ℝ) : ℝ × ℝ :=
  if 256 ≤ upTo a (2⁻¹ * (p.1 + p.2)) then (p.1, 2⁻¹ * (p.1 + p.2)) else (2⁻¹ * (p.1 + p.2), p.2)

/-- The places in rising order: `π k` is the place of the `k`-th least number. -/
structure Rising (π : Fin 2048 → Fin 2048) : Prop where
  inj : Function.Injective π
  mono : ∀ i j, i ≤ j → a (π i) ≤ a (π j)

variable {a} {π : Fin 2048 → Fin 2048}

/-- More than `k` numbers lie up to `t` exactly when the one at place `k` does. -/
theorem lt_upTo_iff (h : Rising a π) (z : Fin 2048) (t : ℝ) : z.val < upTo a t ↔ a (π z) ≤ t := by
  have e : upTo a t = (Finset.univ.filter fun k => a (π k) ≤ t).card := by
    refine (congrArg Finset.card ?_).trans (Finset.card_image_of_injective _ h.inj)
    ext j
    obtain ⟨k, rfl⟩ := (Finite.injective_iff_surjective.mp h.inj) j
    simp only [Finset.mem_image, Finset.mem_filter, Finset.mem_univ, true_and]
    exact ⟨fun g => ⟨k, g, rfl⟩, fun ⟨k', g, e⟩ => h.inj e ▸ g⟩
  rw [e]
  constructor
  · intro g
    by_contra hn
    have sub : (Finset.univ.filter fun k => a (π k) ≤ t) ⊆ Finset.Iio z := fun k hk => by
      rw [Finset.mem_Iio]
      by_contra hk'
      exact hn ((h.mono _ _ (not_lt.mp hk')).trans (Finset.mem_filter.mp hk).2)
    have := Finset.card_le_card sub
    rw [Fin.card_Iio] at this
    omega
  · intro g
    have sub : Finset.Iic z ⊆ (Finset.univ.filter fun k => a (π k) ≤ t) := fun k hk =>
      Finset.mem_filter.mpr ⟨Finset.mem_univ _, (h.mono _ _ (Finset.mem_Iic.mp hk)).trans g⟩
    have := Finset.card_le_card sub
    rw [Fin.card_Iic] at this
    omega

/-- At least 256 numbers lie up to `t` exactly when the 256th least does. -/
theorem upTo_iff (h : Rising a π) (t : ℝ) : 256 ≤ upTo a t ↔ a (π 255) ≤ t := lt_upTo_iff h 255 t

/-- After `n` steps the interval still holds the 256th least number, and its length is the first one's halved `n` times. -/
theorem halve_iterate (h : Rising a π) (p : ℝ × ℝ) (h0 : p.1 ≤ a (π 255)) (h1 : a (π 255) ≤ p.2) (n : ℕ) :
    ((halve a)^[n] p).1 ≤ a (π 255) ∧ a (π 255) ≤ ((halve a)^[n] p).2
      ∧ ((halve a)^[n] p).2 - ((halve a)^[n] p).1 = (p.2 - p.1) * (2⁻¹) ^ n := by
  induction n with
  | zero => exact ⟨h0, h1, by simp⟩
  | succ n ih =>
    rw [Function.iterate_succ_apply']
    obtain ⟨i0, i1, i2⟩ := ih
    generalize (halve a)^[n] p = q at i0 i1 i2 ⊢
    unfold halve
    split
    · rename_i g
      refine ⟨i0, (upTo_iff h _).mp g, ?_⟩
      rw [pow_succ, ← mul_assoc, ← i2]
      ring
    · rename_i g
      refine ⟨le_of_not_ge fun g' => g ((upTo_iff h _).mpr g'), i1, ?_⟩
      rw [pow_succ, ← mul_assoc, ← i2]
      ring

/-- The numbers up to the upper end after `n` steps are the 256 least, once the gap above the 256th is longer than the interval. -/
theorem within_iff (h : Rising a π) (p : ℝ × ℝ) (h0 : p.1 ≤ a (π 255)) (h1 : a (π 255) ≤ p.2) (n : ℕ)
    (gap : (p.2 - p.1) * (2⁻¹) ^ n < a (π 256) - a (π 255)) (j : Fin 2048) :
    a j ≤ ((halve a)^[n] p).2 ↔ ∃ k : Fin 256, π (k.castLE (by decide)) = j := by
  obtain ⟨i0, i1, i2⟩ := halve_iterate h p h0 h1 n
  obtain ⟨k, rfl⟩ := (Finite.injective_iff_surjective.mp h.inj) j
  constructor
  · intro g
    have hk : k.val < 256 := by
      by_contra hk
      have : a (π 256) ≤ a (π k) := h.mono _ _ (Fin.le_def.mpr (by show 256 ≤ k.val; omega))
      linarith
    exact ⟨⟨k.val, hk⟩, rfl⟩
  · rintro ⟨z, e⟩
    rw [← e]
    exact (h.mono _ _ (Fin.le_def.mpr (by show z.val ≤ 255; omega))).trans i1

/-- The least and the greatest number. -/
def least (a : Fin 2048 → ℝ) : ℝ := Finset.univ.inf' ⟨0, Finset.mem_univ _⟩ a
def greatest (a : Fin 2048 → ℝ) : ℝ := Finset.univ.sup' ⟨0, Finset.mem_univ _⟩ a

theorem least_le (a : Fin 2048 → ℝ) (j : Fin 2048) : least a ≤ a j := Finset.inf'_le _ (Finset.mem_univ j)
theorem le_greatest (a : Fin 2048 → ℝ) (j : Fin 2048) : a j ≤ greatest a := Finset.le_sup' _ (Finset.mem_univ j)

/-- The minimum folded over the extended reals from infinity is the least number. -/
theorem fold_min (a : Fin 2048 → ℝ) (m : EReal → EReal → EReal) [Std.Commutative m] [Std.Associative m] (hm : ∀ x y, m x y = min x y) :
    Finset.fold m (⊤ : EReal) (fun j => (a j : EReal)) Finset.univ = (least a : EReal) := by
  obtain rfl : m = min := funext fun x => funext fun y => hm x y
  show Finset.univ.inf (fun j => (a j : EReal)) = _
  obtain ⟨j, hj, e⟩ := Finset.exists_mem_eq_inf' (⟨0, Finset.mem_univ _⟩ : (Finset.univ : Finset (Fin 2048)).Nonempty) a
  refine le_antisymm ?_ (Finset.le_inf fun k _ => EReal.coe_le_coe_iff.mpr (least_le a k))
  exact (Finset.inf_le hj).trans (le_of_eq (congrArg Real.toEReal e.symm))

theorem fold_max (a : Fin 2048 → ℝ) (m : EReal → EReal → EReal) [Std.Commutative m] [Std.Associative m] (hm : ∀ x y, m x y = max x y) :
    Finset.fold m (⊥ : EReal) (fun j => (a j : EReal)) Finset.univ = (greatest a : EReal) := by
  obtain rfl : m = max := funext fun x => funext fun y => hm x y
  show Finset.univ.sup (fun j => (a j : EReal)) = _
  obtain ⟨j, hj, e⟩ := Finset.exists_mem_eq_sup' (⟨0, Finset.mem_univ _⟩ : (Finset.univ : Finset (Fin 2048)).Nonempty) a
  refine le_antisymm (Finset.sup_le fun k _ => EReal.coe_le_coe_iff.mpr (le_greatest a k)) ?_
  exact (le_of_eq (congrArg Real.toEReal e)).trans (Finset.le_sup (f := fun j => (a j : EReal)) hj)

/-- Counting over the extended reals. -/
theorem sum_upTo (a : Fin 2048 → ℝ) (t : ℝ) : (∑ j, if (a j : EReal) ≤ (t : EReal) then (1 : EReal) else 0) = ((upTo a t : ℝ) : EReal) := by
  unfold upTo
  have e : ∀ j, (if (a j : EReal) ≤ (t : EReal) then (1 : EReal) else 0) = (((if a j ≤ t then 1 else 0 : ℕ) : ℝ) : EReal) := fun j => by
    by_cases h : a j ≤ t
    · rw [if_pos h, if_pos (EReal.coe_le_coe_iff.mpr h)]; simp
    · rw [if_neg h, if_neg fun h' => h (EReal.coe_le_coe_iff.mp h')]; simp
  rw [Finset.card_filter, Finset.sum_congr rfl fun j _ => e j, Nat.cast_sum]
  induction (Finset.univ : Finset (Fin 2048)) using Finset.cons_induction with
  | empty => simp
  | cons j s hj ih => rw [Finset.sum_cons, Finset.sum_cons, ih, EReal.coe_add]

end Cert.Select
-- ==== Proof.KernelIdeal.BisectValue.lean ====
/- The bisection read over the extended reals: every row's interval is the real bisection of the row's scores. -/
module

public import proofs.«01_k».proof.Proof.KernelIdeal.Bisect
public import proofs.«01_k».proof.Proof.Select
public import Idealize.ShloMosaic.Lib.Pointwise

@[expose] public section

noncomputable section

namespace Cert.KernelIdeal.Hand

open Idealize.ShloMosaic Idealize.SL.Sem Cert.KernelIdeal Cert.KernelIdeal.Gen

variable (x : Vec Ideal S192x2048 .f32) (g : Fin 192)

theorem half_word : (Ideal.ofBits .f32 0x3F000000#32 : EReal) = ((2⁻¹ : ℝ) : EReal) := by
  simp [Ideal.ofBits, Ideal.ieee]
  rw [← EReal.coe_mul]
  norm_num
theorem count_word : (Ideal.ofBits .f32 0x43800000#32 : EReal) = ((256 : ℝ) : EReal) := by
  simp [Ideal.ofBits, Ideal.ieee]
  rw [← EReal.coe_mul]
  norm_num
theorem top_word : (Ideal.ofBits .f32 0x7F800000#32 : EReal) = ⊤ := by simp [Ideal.ofBits, Ideal.ieee]
theorem bot_word : (Ideal.ofBits .f32 0xFF800000#32 : EReal) = ⊥ := by simp [Ideal.ofBits, Ideal.ieee]

theorem pay3_at (p q : FVec Ideal S192x1 .f32) :
    k0_pay4 p q (ix2 g 0) = Ideal.ofBits .f32 0x3F000000#32 * (p (ix2 g 0) + q (ix2 g 0)) := by
  pointwise [k0_pay4]

theorem pay4_at (p q : FVec Ideal S192x1 .f32) : k0_pay5 x p q (ix2 g 0)
    = BitVec.ofBool (decide (Ideal.ofBits FTy.f32 0x43800000#32 ≤ ∑ j, if x (ix2 g j) ≤ k0_pay4 p q (ix2 g 0) then (1 : EReal) else 0)) := by
  unfold k0_pay5
  generalize k0_pay4 p q = m
  pointwise

theorem pay5_at (p q : FVec Ideal S192x1 .f32) :
    k0_pay6 x p q (ix2 g 0) = Scalar.select (k0_pay5 x p q (ix2 g 0)) (p (ix2 g 0)) (k0_pay4 p q (ix2 g 0)) := by
  unfold k0_pay6
  generalize k0_pay5 x p q = m
  generalize k0_pay4 p q = n
  pointwise

theorem pay6_at (p q : FVec Ideal S192x1 .f32) :
    k0_pay7 x p q (ix2 g 0) = Scalar.select (k0_pay5 x p q (ix2 g 0)) (k0_pay4 p q (ix2 g 0)) (q (ix2 g 0)) := by
  unfold k0_pay7
  generalize k0_pay5 x p q = m
  generalize k0_pay4 p q = n
  pointwise

theorem pay1_at : k0_pay2 x (ix2 g 0) = Finset.fold (β := EReal) min (Ideal.ofBits .f32 0x7F800000#32) (fun j : Fin 2048 => x (ix2 g j)) Finset.univ := by
  pointwise [k0_pay2]
theorem pay2_at : k0_pay3 x (ix2 g 0) = Finset.fold (β := EReal) max (Ideal.ofBits .f32 0xFF800000#32) (fun j : Fin 2048 => x (ix2 g j)) Finset.univ := by
  pointwise [k0_pay3]

variable (a : Fin 2048 → ℝ) (ha : ∀ j, x (ix2 g j) = (a j : EReal))
include ha

/-- One step on a row is the real step. -/
theorem halve_at (p q : FVec Ideal S192x1 .f32) (l h : ℝ) (hp : p (ix2 g 0) = (l : EReal)) (hq : q (ix2 g 0) = (h : EReal)) :
    k0_pay6 x p q (ix2 g 0) = (((Select.halve a (l, h)).1 : ℝ) : EReal) ∧ k0_pay7 x p q (ix2 g 0) = (((Select.halve a (l, h)).2 : ℝ) : EReal) := by
  have e3 : k0_pay4 p q (ix2 g 0) = ((2⁻¹ * (l + h) : ℝ) : EReal) := by
    rw [pay3_at, hp, hq, half_word, ← EReal.coe_add, ← EReal.coe_mul]
  have e4 : k0_pay5 x p q (ix2 g 0) = BitVec.ofBool (decide (256 ≤ Select.upTo a (2⁻¹ * (l + h)))) := by
    rw [pay4_at, e3, count_word]
    simp only [ha]
    refine congrArg BitVec.ofBool (decide_eq_decide.mpr ?_)
    rw [Select.sum_upTo, EReal.coe_le_coe_iff]
    exact ⟨fun g => by exact_mod_cast g, fun g => by exact_mod_cast g⟩
  rw [pay5_at, pay6_at, e3, e4, hp, hq]
  unfold Select.halve
  by_cases g : 256 ≤ Select.upTo a (2⁻¹ * (l + h))
  · rw [decide_eq_true g, if_pos g]
    exact ⟨rfl, rfl⟩
  · rw [decide_eq_false g, if_neg g]
    exact ⟨rfl, rfl⟩

/-- The interval of a row after `n` steps. -/
theorem bisect_at (n : ℕ) :
    (bisect x n).1 (ix2 g 0) = ((((Select.halve a)^[n] (Select.least a, Select.greatest a)).1 : ℝ) : EReal)
      ∧ (bisect x n).2 (ix2 g 0) = ((((Select.halve a)^[n] (Select.least a, Select.greatest a)).2 : ℝ) : EReal) := by
  induction n with
  | zero =>
    have e : bisect x 0 = (k0_pay2 x, k0_pay3 x) := rfl
    rw [e, Function.iterate_zero, id_eq]
    dsimp only
    constructor
    · refine (pay1_at x g).trans ?_
      rw [top_word, show (fun j => x (ix2 g j)) = fun j => (a j : EReal) from funext ha]
      exact Select.fold_min a _ fun _ _ => rfl
    · refine (pay2_at x g).trans ?_
      rw [bot_word, show (fun j => x (ix2 g j)) = fun j => (a j : EReal) from funext ha]
      exact Select.fold_max a _ fun _ _ => rfl
  | succ n ih =>
    unfold bisect at ih ⊢
    rw [Function.iterate_succ_apply', Function.iterate_succ_apply']
    exact halve_at x g a ha _ _ _ _ ih.1 ih.2

end Cert.KernelIdeal.Hand
-- ==== Proof.Words.lean ====
/- The random words the scores are drawn from, as plain functions of 32-bit words: the Threefry block cipher with 20 rounds, run on
   the key (0, 42) and the counter (0, n), its two output words combined by exclusive or; and the score made of a word. -/
module

public import Idealize.ShloMosaic.Lib.Pointwise
public import Idealize.ShloMosaic.Lib.ValueIdx
public import Idealize.ShloMosaic.PureOps.Ideal.Laws

@[expose] public section

noncomputable section

namespace Cert.Words

open Idealize.ShloMosaic

/-- A pair of words, the state of the cipher. -/
abbrev Pair := BitVec 32 × BitVec 32

/-- Rotation left by `a`, written with the right shift by `b = 32 - a`. -/
def rotl (a b : BitVec 32) (v : BitVec 32) : BitVec 32 := (v <<< a) ||| (v >>> b)

/-- One round: add, rotate, exclusive or. -/
def rnd (a b : BitVec 32) (p : Pair) : Pair := (p.1 + p.2, rotl a b p.2 ^^^ (p.1 + p.2))

/-- The key's words added after every four rounds. -/
def inject (k l : BitVec 32) (p : Pair) : Pair := (p.1 + k, p.2 + l)

/-- The four rounds of an even group. -/
def even (p : Pair) : Pair := rnd 6 26 (rnd 26 6 (rnd 15 17 (rnd 13 19 p)))
/-- The four rounds of an odd group. -/
def odd (p : Pair) : Pair := rnd 24 8 (rnd 16 16 (rnd 29 3 (rnd 17 15 p)))

/-- The state after the twenty rounds from the counter `n`; the key's third word is `466689008`. -/
def cipher (n : BitVec 32) : Pair :=
  inject 466689008 5 (even (inject 42 466689012 (odd (inject 0 45 (even
    (inject 466689008 2 (odd (inject 42 466689009 (even (0, n + 42))))))))))

/-- The word drawn for the counter `n`. -/
def word (n : BitVec 32) : BitVec 32 := (cipher n).1 ^^^ (cipher n).2

/-- The score of a position at distance `d` whose random word is `x`: the word's upper 23 bits are the fraction of a number
    from 1 below 2, one less of it is the uniform number `u`, and the score is `d - 3 exp(-log(1 - u) / 2)`. -/
def score (d : EReal) (x : BitVec 32) : EReal :=
  d - 3 * Ideal.exp (-(Ideal.log1p (-(Ideal.ofBits .f32 ((x >>> (9#32)) ||| 1065353216#32) - 1))) / 2)

/-- The distance of window `w` from the window of position `j`. -/
def dist (w : Fin 16) (j : Fin 2048) : ℕ := if w.val ≤ j.val / 128 then j.val / 128 - w.val else w.val - j.val / 128

/-- The score of position `j` in row `g`: row `g` is window `g % 16` of head `g / 16`. -/
def scoreAt (g : Fin 192) (j : Fin 2048) : EReal :=
  score ((dist ⟨g.val % 16, Nat.mod_lt _ (by decide)⟩ j : ℕ) : ℝ) (word (BitVec.ofNat 32 (g.val * 2048 + j.val)))

/-! The same steps over vectors of words, as a kernel spells them and as a host program does. -/

variable {s : Shape}

/-- A pair of vectors of words. -/
abbrev Pairs (s : Shape) := IVec s 32 × IVec s 32

/-- The pair of words at a position. -/
def Pairs.at (p : Pairs s) (i : s.Idx) : Pair := (p.1 i, p.2 i)

/-- A kernel's round. -/
def vrnd (a b : BitVec 32) (p : Pairs s) : Pairs s :=
  (addi p.1 p.2, xori (ori (shli p.2 (broadcast s a)) (shrui p.2 (broadcast s b))) (addi p.1 p.2))

def vinject (k l : BitVec 32) (p : Pairs s) : Pairs s := (addi p.1 (broadcast s k), addi p.2 (broadcast s l))

theorem shift_words (u : ArithUnit) (a b : BitVec 32) (ha : a.toNat < 32) (hb : b.toNat < 32) (x : BitVec 32) :
    IntOp.ori (IntOp.shli u x a) (IntOp.shrui u x b) = rotl a b x := by
  rw [IntOp.shli, IntOp.shrui, if_pos ha, if_pos hb]
  rfl

theorem vrnd_at (a b : BitVec 32) (ha : a.toNat < 32) (hb : b.toNat < 32) (p : Pairs s) (i : s.Idx) :
    (vrnd a b p).at i = rnd a b (p.at i) :=
  Prod.ext rfl (congrArg (· ^^^ (p.1 i + p.2 i)) (shift_words .vector a b ha hb (p.2 i)))

theorem vinject_at (k l : BitVec 32) (p : Pairs s) (i : s.Idx) : (vinject k l p).at i = inject k l (p.at i) := rfl

/-- A literal of a host program spread over a shape. -/
abbrev lit (h : (⟨0, ![]⟩ : Shape).BroadcastsInDim s ![]) (a : BitVec 32) : IVec s 32 :=
  broadcastInDim s ![] h (constantI ⟨0, ![]⟩ 32 a)

/-- A host program's round. -/
def hrnd (h : (⟨0, ![]⟩ : Shape).BroadcastsInDim s ![]) (a b : BitVec 32) (p : Pairs s) : Pairs s :=
  (addi p.1 p.2, xori (addi p.1 p.2) (ori (Host.shli p.2 (lit h a)) (Host.shrui p.2 (lit h b))))

def hinject (h : (⟨0, ![]⟩ : Shape).BroadcastsInDim s ![]) (k l : BitVec 32) (p : Pairs s) : Pairs s := (addi p.1 (lit h k), addi p.2 (lit h l))

theorem hrnd_at (h : (⟨0, ![]⟩ : Shape).BroadcastsInDim s ![]) (a b : BitVec 32) (ha : a.toNat < 32) (hb : b.toNat < 32) (p : Pairs s) (i : s.Idx) :
    (hrnd h a b p).at i = rnd a b (p.at i) :=
  Prod.ext rfl ((BitVec.xor_comm _ _).trans (congrArg (· ^^^ (p.1 i + p.2 i)) (shift_words .host a b ha hb (p.2 i))))

theorem hinject_at (h : (⟨0, ![]⟩ : Shape).BroadcastsInDim s ![]) (k l : BitVec 32) (p : Pairs s) (i : s.Idx) :
    (hinject h k l p).at i = inject k l (p.at i) := rfl

/-! The literals of the score. -/

theorem lit_one : (Ideal.ofBits .f32 0x3F800000#32 : EReal) = 1 := by
  simp [Ideal.ofBits, Ideal.ieee]
  rw [← EReal.coe_mul]
  norm_num
theorem lit_two : (Ideal.ofBits .f32 0x40000000#32 : EReal) = 2 := by
  simp [Ideal.ofBits, Ideal.ieee]
  rw [← EReal.coe_mul]
  norm_num
  rfl
theorem lit_three : (Ideal.ofBits .f32 0x40400000#32 : EReal) = 3 := by
  simp [Ideal.ofBits, Ideal.ieee]
  rw [← EReal.coe_mul]
  norm_num
  rfl
theorem lit_half : (Ideal.ofBits .f32 0x3F000000#32 : EReal) = (2 : EReal)⁻¹ := by
  simp [Ideal.ofBits, Ideal.ieee]
  rw [← EReal.coe_mul, show (2 : EReal) = ((2 : ℝ) : EReal) from rfl, ← EReal.coe_inv]
  norm_num

/-- The absolute difference of two windows' numbers, in either order, read as an integer. -/
theorem dist_words : ∀ a b : Fin 16,
    (IntOp.absi (IntOp.subi (BitVec.ofNat 32 a.val) (BitVec.ofNat 32 b.val))).toInt = ((if a.val ≤ b.val then b.val - a.val else a.val - b.val : ℕ) : ℤ) := by
  decide +kernel

end Cert.Words
-- ==== Proof.KernelIdeal.DrawWords.lean ====
/- The scores `KernelIdeal` draws, entry by entry: the four parts of a trip compute the cipher of `Words` at every position, the last part makes
   a score of the word and of the distance between the row's window and the position's. -/
module

public import proofs.«01_k».proof.Proof.KernelIdeal.Draw
public import proofs.«01_k».proof.Proof.Words

@[expose] public section

set_option maxRecDepth 16384

noncomputable section

namespace Cert.KernelIdeal.Hand

open Idealize.ShloMosaic Idealize.ShloMosaic.TcCoe
open Cert.KernelIdeal.Gen
open Cert.Words

theorem first_vectors (k : Fin k0_t1_loop.trips) :
    (k0_pay17 0#32 1#32 k, k0_pay18 0#32 1#32 k)
      = vinject 42 466689009 (vrnd 6 26 (vrnd 26 6 (vrnd 15 17 (vrnd 13 19 (broadcast S16x2048 0#32, k0_pay9 0#32 1#32 k))))) := by
  rfl

theorem second_vectors (v w : IVec S16x2048 32) :
    (k0_pay29 v w, k0_pay30 v w) = vrnd 15 17 (vrnd 13 19 (vinject 466689008 2 (vrnd 24 8 (vrnd 16 16 (vrnd 29 3 (vrnd 17 15 (v, w))))))) := by
  rfl

theorem third_vectors (v w : IVec S16x2048 32) :
    (k0_pay41 v w, k0_pay42 v w) = vrnd 24 8 (vrnd 16 16 (vrnd 29 3 (vrnd 17 15 (vinject 0 45 (vrnd 6 26 (vrnd 26 6 (v, w))))))) := by
  rfl

/-- The uniform numbers made of the last state. -/
def uniform (p : Pairs S16x2048) : FVec Ideal S16x2048 .f32 :=
  subf (bitcastToFloat .f32 (ori (shrui (xori p.1 p.2) (broadcast S16x2048 9#32)) (broadcast S16x2048 1065353216#32)))
    (broadcast S16x2048 (Scalar.ofBits .f32 0x3F800000#32))

theorem fourth_vectors (v w : IVec S16x2048 32) :
    k0_pay43 (F := Ideal) v w = uniform (vinject 466689008 5 (vrnd 6 26 (vrnd 26 6 (vrnd 15 17 (vrnd 13 19 (vinject 42 466689012 (v, w))))))) := by
  rfl

/-- The counters of a trip, the key's second word added. -/
theorem counter_at (k : Fin k0_t1_loop.trips) (r : Fin 16) (j : Fin 2048) :
    k0_pay9 0#32 1#32 k (ix2 r j) = BitVec.ofNat 32 ((16 * k.val + r.val) * 2048 + j.val) + 42 := by
  have hk : k.val < 12 := lt_of_lt_of_eq k.isLt trips_eq
  have e : k0_pay9 0#32 1#32 k (ix2 r j)
      = ((16#32 * (0#32 + BitVec.ofNat 32 k.val * 1#32)) * 2048#32 + BitVec.ofNat 32 r.val * 2048#32 + BitVec.ofNat 32 j.val) + 42#32 := by
    unfold k0_pay9
    pointwise
    rfl
  rw [e]
  refine congrArg (· + 42#32) (BitVec.eq_of_toNat_eq ?_)
  have := r.isLt
  have := j.isLt
  simp only [BitVec.toNat_add, BitVec.toNat_mul, BitVec.toNat_ofNat]
  omega

/-- The pair of vectors after the twenty rounds of a trip, at a position. -/
theorem cipher_at (k : Fin k0_t1_loop.trips) (r : Fin 16) (j : Fin 2048) :
    Pairs.at (vinject 466689008 5 (vrnd 6 26 (vrnd 26 6 (vrnd 15 17 (vrnd 13 19 (vinject 42 466689012 (bits3 k))))))) (ix2 r j)
      = cipher (BitVec.ofNat 32 ((16 * k.val + r.val) * 2048 + j.val)) := by
  rw [show bits3 k = _ from third_vectors (bits2 k).1 (bits2 k).2]
  rw [show ((bits2 k).1, (bits2 k).2) = _ from second_vectors (k0_pay17 0#32 1#32 k) (k0_pay18 0#32 1#32 k)]
  rw [first_vectors]
  simp only [vinject_at, vrnd_at _ _ (show (BitVec.toNat 13) < 32 by decide) (show (BitVec.toNat 19) < 32 by decide),
    vrnd_at 15 17 (by decide) (by decide), vrnd_at 26 6 (by decide) (by decide), vrnd_at 6 26 (by decide) (by decide),
    vrnd_at 17 15 (by decide) (by decide), vrnd_at 29 3 (by decide) (by decide), vrnd_at 16 16 (by decide) (by decide), vrnd_at 24 8 (by decide) (by decide)]
  unfold cipher even odd
  rw [← counter_at k r j]
  rfl

end Cert.KernelIdeal.Hand
-- ==== Proof.KernelIdeal.DrawValue.lean ====
/- The array of scores `KernelIdeal` draws, at an index over the extended reals: the score of `Words`. -/
module

public import proofs.«01_k».proof.Proof.KernelIdeal.DrawWords
public import Idealize.ShloMosaic.Lib.Pipeline.Value

@[expose] public section

set_option maxRecDepth 16384

noncomputable section

namespace Cert.KernelIdeal.Hand

open Idealize.ShloMosaic Idealize.ShloMosaic.TcCoe
open Cert.KernelIdeal.Gen
open Cert.Words

/-- The window of a row: the remainder of the row's number by sixteen. -/
theorem window_at (k : Fin k0_t1_loop.trips) (r : Fin 16) (j : Fin 2048) :
    k0_pay45 (Scalar.muli 16#32 (Scf.iv 0#32 1#32 k)) (ix2 r j) = BitVec.ofNat 32 r.val := by
  unfold k0_pay45
  pointwise
  clear j
  revert k r
  decide +kernel

/-- The window of a position, as the last part computes it: the floor of the position divided by 128. -/
def positionWindow : IVec S16x2048 32 :=
  select (andi k0_pay47 (cmpi .ne (remsi (iota .tc S16x2048 32 [1] iota_S16x2048_d1_w32) (broadcast S16x2048 128#32)) (broadcast S16x2048 0#32)))
    (subi k0_pay46 (broadcast S16x2048 1#32)) k0_pay46

theorem positionWindow_at (r : Fin 16) (j : Fin 2048) : positionWindow (ix2 r j) = BitVec.ofNat 32 (j.val / 128) := by
  unfold positionWindow k0_pay46 k0_pay47
  pointwise
  clear r
  revert j
  decide +kernel

/-- Three times the exponential of half the exponential variate of the uniform number `u`. -/
theorem pareto_at (u : FVec Ideal S16x2048 .f32) (r : Fin 16) (j : Fin 2048) :
    k0_pay44 u (Scalar.ofBits .f32 0x00000000#32) (ix2 r j) = 3 * Ideal.exp (-(Ideal.log1p (-(u (ix2 r j)))) / 2) := by
  unfold k0_pay44
  pointwise
  rw [lit_three, lit_half, zero_sub, zero_sub, mul_comm (2 : EReal)⁻¹]
  rfl

theorem uniform_at (p : Pairs S16x2048) (r : Fin 16) (j : Fin 2048) :
    uniform p (ix2 r j) = Ideal.ofBits .f32 (((p.at (ix2 r j)).1 ^^^ (p.at (ix2 r j)).2) >>> 9#32 ||| 1065353216#32) - 1 := by
  unfold uniform
  pointwise
  rfl

/-- The last part at a position: the distance of the two windows, less what was drawn. -/
theorem last_at (win : IVec S16x2048 32) (q : FVec Ideal S16x2048 .f32) (r : Fin 16) (j : Fin 2048) :
    k0_pay1 q win (iota .tc S16x2048 32 [1] iota_S16x2048_d1_w32) 128#32 k0_pay46 k0_pay47 (ix2 r j)
      = ((((IntOp.absi (IntOp.subi (win (ix2 r j)) (positionWindow (ix2 r j)))).toInt : ℝ) : EReal) - q (ix2 r j)) := by
  have e1 : k0_pay1 q win (iota .tc S16x2048 32 [1] iota_S16x2048_d1_w32) 128#32 k0_pay46 k0_pay47
      = subf (sitofp .f32 (absi (subi win positionWindow))) q := by
    unfold k0_pay1 positionWindow
    pointwise
  rw [e1]
  generalize positionWindow = y
  pointwise
  rfl

theorem chunk_at (k : Fin k0_t1_loop.trips) (r : Fin 16) (j : Fin 2048) (hg : 16 * k.val + r.val < 192) :
    (chunk k : FVec Ideal S16x2048 .f32) (ix2 r j) = scoreAt ⟨16 * k.val + r.val, hg⟩ j := by
  have hc := cipher_at k r j
  unfold chunk
  rw [fourth_vectors]
  generalize vinject 466689008 5 (vrnd 6 26 (vrnd 26 6 (vrnd 15 17 (vrnd 13 19 (vinject 42 466689012 (bits3 k)))))) = p at hc ⊢
  rw [last_at, pareto_at, uniform_at, window_at, positionWindow_at, hc]
  have hd := dist_words r ⟨j.val / 128, by omega⟩
  rw [hd]
  have hm : (16 * k.val + r.val) % 16 = r.val := by omega
  unfold scoreAt score Words.dist word
  simp only [hm]
  rw [Int.cast_natCast]

/-- The array of the scores of `Words`. -/
def drawnScores : S192x2048.Idx → Elt Ideal .f32 := fun y => scoreAt (y 0) (y 1)

/-- Every store of the twelve trips leaves the scores of its rows. -/
theorem rows_at (n : ℕ) : ∀ p ∈ rowsBefore (F := Ideal) n, ∀ x : p.1.shape.Idx,
    p.2 x = drawnScores (p.1.emb x) := by
  induction n with
  | zero => intro p hp; simp [rowsBefore] at hp
  | succ n ih =>
    intro p hp
    rw [rowsBefore] at hp
    split at hp
    · rename_i hn
      rcases List.mem_cons.mp hp with rfl | hp
      · intro x
        have hx : x = ix2 (n0 := 16) (n1 := 2048) (x 0) (x 1) := (ix2_eta (n0 := 16) (n1 := 2048) x).symm
        have hk : n < 12 := lt_of_lt_of_eq hn trips_eq
        have h0 : (x 0).val < 16 := (x 0).isLt
        have hlt : 16 * n + (x 0).val < 192 := by omega
        have ho := off_eq ⟨n, hn⟩
        have e0 : ((rowsOf ⟨n, hn⟩).emb x 0 : Fin 192) = ⟨16 * n + (x 0).val, hlt⟩ :=
          Fin.ext (show k0_off1 ⟨n, hn⟩ 0 + 1 * (x 0).val = _ by rw [ho.1]; show 16 * n + _ = 16 * n + _; omega)
        have e1 : ((rowsOf ⟨n, hn⟩).emb x 1 : Fin 2048) = x 1 :=
          Fin.ext (show k0_off1 ⟨n, hn⟩ 1 + 1 * (x 1).val = _ by rw [ho.2]; omega)
        show (chunk ⟨n, hn⟩ : FVec Ideal S16x2048 .f32) x = scoreAt _ _
        rw [e0, e1]
        refine Eq.trans ?_ (chunk_at ⟨n, hn⟩ (x 0) (x 1) hlt)
        exact congrArg _ hx
      · exact ih p hp
    · exact ih p hp

/-- The scores drawn, entry by entry. -/
theorem scores_at (g : Fin 192) (j : Fin 2048) : (scores : Vec Ideal S192x2048 .f32) (ix2 g j) = scoreAt g j :=
  View.canon_apply_of_pieces drawnScores _ (rows_at 12) (ix2 g j) (cover_rows _)

end Cert.KernelIdeal.Hand
-- ==== Proof.ReferenceIdeal.KeptValue.lean ====
/- The reference's queries, kept keys, kept values and kept bias at an index. The projections are read through their reshapes and
   transposes; the gathers read the row that a kept position names, which lies in range. -/
module

public import proofs.«01_k».proof.Proof.Gen.ReferenceIdeal.Read
public import Idealize.ShloMosaic.Lib.Pointwise
public import proofs.«01_k».proof.Proof.Spec

@[expose] public section

noncomputable section

namespace Cert.ReferenceIdeal.Hand

open Cert.ReferenceIdeal Cert.ReferenceIdeal.Gen Cert.ReferenceIdeal.Read Idealize.ShloMosaic Idealize.SL.Sem
open Cert

theorem word_toInt (k : Fin 2048) : (BitVec.ofNat 32 k.val).toInt = (k.val : Int) := by
  have := k.isLt
  rw [BitVec.toInt_eq_toNat_of_lt (by rw [BitVec.toNat_ofNat]; omega), BitVec.toNat_ofNat]
  omega

/-- A position in range is not negative, so the wrap of negative positions leaves it. -/
theorem wrap_word (k : Fin 2048) :
    Scalar.select (IntOp.cmpi .slt (BitVec.ofNat 32 k.val) 0#32) (IntOp.addi (BitVec.ofNat 32 k.val) 2048#32) (BitVec.ofNat 32 k.val)
      = BitVec.ofNat 32 k.val := by
  have e : IntOp.cmpi .slt (BitVec.ofNat 32 k.val) 0#32 = 0#1 := by
    show BitVec.ofBool (BitVec.slt _ _) = 0#1
    rw [BitVec.slt_eq_decide, word_toInt, decide_eq_false (by simp)]
    rfl
  rw [e]
  rfl

/-- The gather of rows along axis 2, at an index. -/
theorem rows_at (x : Vec Ideal S1x12x2048x64 .f32) (idx : Vec Ideal S12x4096x64x1 .i32) (h : Fin 12) (p : Fin 4096) (d : Fin 64)
    (k : Fin 2048) (hk : idx (ix4 h p d 0) = BitVec.ofNat 32 k.val) :
    Host.gather gather_S1x12x2048x64_S12x4096x64x1_S1x12x4096x64_0_2_13_02_2_3_1111 x idx (ix4 0 h p d) = x (ix4 0 h k d) := by
  unfold Host.gather
  refine congrArg x (funext fun a => Fin.ext ?_)
  match a with
  | ⟨0, _⟩ => rfl
  | ⟨1, _⟩ => exact (Nat.zero_add _)
  | ⟨2, _⟩ =>
    have e : gather_S1x12x2048x64_S12x4096x64x1_S1x12x4096x64_0_2_13_02_2_3_1111.siIdx (ix4 0 h p d) ⟨0, by decide⟩ = ix4 h p d 0 := by
      funext b
      match b with
      | ⟨0, _⟩ => rfl
      | ⟨1, _⟩ => rfl
      | ⟨2, _⟩ => rfl
      | ⟨3, _⟩ => rfl
    show min (idx (gather_S1x12x2048x64_S12x4096x64x1_S1x12x4096x64_0_2_13_02_2_3_1111.siIdx (ix4 0 h p d) ⟨0, by decide⟩)).toInt.toNat (2048 - 1) = k.val
    rw [e, hk, word_toInt]
    omega
  | ⟨3, _⟩ => exact (Nat.zero_add _)

/-- The gather of the bias's columns along axis 4, at an index. -/
theorem cols_at (x : Vec Ideal S1x12x16x128x2048 .f32) (idx : Vec Ideal S12x16x128x256x1 .i32) (h : Fin 12) (w : Fin 16) (a : Fin 128)
    (z : Fin 256) (k : Fin 2048) (hk : idx (ix5 h w a z 0) = BitVec.ofNat 32 k.val) :
    Host.gather gather_S1x12x16x128x2048_S12x16x128x256x1_S1x12x16x128x256_0_4_123_012_4_4_11111 x idx (ix5 0 h w a z) = x (ix5 0 h w a k) := by
  unfold Host.gather
  refine congrArg x (funext fun b => Fin.ext ?_)
  match b with
  | ⟨0, _⟩ => rfl
  | ⟨1, _⟩ => exact (Nat.zero_add _)
  | ⟨2, _⟩ => exact (Nat.zero_add _)
  | ⟨3, _⟩ => exact (Nat.zero_add _)
  | ⟨4, _⟩ =>
    have e : gather_S1x12x16x128x2048_S12x16x128x256x1_S1x12x16x128x256_0_4_123_012_4_4_11111.siIdx (ix5 0 h w a z) ⟨0, by decide⟩ = ix5 h w a z 0 := by
      funext b
      match b with
      | ⟨0, _⟩ => rfl
      | ⟨1, _⟩ => rfl
      | ⟨2, _⟩ => rfl
      | ⟨3, _⟩ => rfl
      | ⟨4, _⟩ => rfl
    show min (idx (gather_S1x12x16x128x2048_S12x16x128x256x1_S1x12x16x128x256_0_4_123_012_4_4_11111.siIdx (ix5 0 h w a z) ⟨0, by decide⟩)).toInt.toNat (2048 - 1) = k.val
    rw [e, hk, word_toInt]
    omega

variable (x0 : Vec Ideal S1x2048x768 .f32) (x1 : Vec Ideal S1x2048 .i1) (x2 : Vec Ideal S12x2048x2048 .f32) (x3 : Vec Ideal S768x2304 .f32)
variable (x4 : Vec Ideal S2304 .f32)

/-- The reference's arguments as the specification's functions. -/
abbrev specX : Fin 2048 → Fin 768 → EReal := fun r k => x0 (ix3 0 r k)
abbrev specW : Fin 768 → Fin 2304 → EReal := fun k j => x3 (ix2 k j)
abbrev specP : Fin 12 → Fin 2048 → Fin 2048 → EReal := fun h r j => x2 (ix3 h r j)

theorem v3_at (h4 : ∀ j, x4 j = 0) (r : Fin 2048) (j : Fin 2304) :
    val_main_v3 (F := Ideal) x0 x3 x4 (ix3 0 r j) = ∑ k : Fin 768, x0 (ix3 0 r k) * x3 (ix2 k j) := by
  rw [val_main_v3_apply, val_main_v0_apply, val_main_v2_apply, val_main_v1_apply, h4]
  refine (add_zero _).trans (Finset.sum_congr rfl fun k _ => congrArg₂ (· * ·) (congrArg x0 (funext fun a => ?_)) (congrArg x3 (funext fun a => ?_)))
  · match a with
    | ⟨0, _⟩ => rfl
    | ⟨1, _⟩ => rfl
    | ⟨2, _⟩ => rfl
  · match a with
    | ⟨0, _⟩ => rfl
    | ⟨1, _⟩ => rfl

theorem v5_at (h4 : ∀ j, x4 j = 0) (s : Fin 3) (h : Fin 12) (r : Fin 2048) (d : Fin 64) :
    val_main_v5 (F := Ideal) x0 x3 x4 (ix5 s 0 h r d) = Spec.proj (specX x0) (specW x3) s h r d := by
  unfold val_main_v5 val_main_v4 Spec.proj
  refine Eq.trans ?_ (v3_at x0 x3 x4 h4 r ⟨(h.val * 64 + d.val) * 3 + s.val, by omega⟩)
  generalize val_main_v3 (F := Ideal) x0 x3 x4 = y
  pointwise
  exact congrArg y (by rw [show (⟨h.val * 192 + d.val * 3 + s.val, by omega⟩ : Fin 2304) = ⟨(h.val * 64 + d.val) * 3 + s.val, by omega⟩ from Fin.ext (by simp only; omega)])

theorem v8_at (h4 : ∀ j, x4 j = 0) (h : Fin 12) (w : Fin 16) (a : Fin 128) (d : Fin 64) :
    val_main_v8 (F := Ideal) x0 x3 x4 (ix5 0 h w a d) = Spec.proj (specX x0) (specW x3) 0 h ⟨w.val * 128 + a.val, by omega⟩ d := by
  rw [← v5_at x0 x3 x4 h4]
  unfold val_main_v8 val_main_v7 val_main_v6
  generalize val_main_v5 (F := Ideal) x0 x3 x4 = y
  pointwise

theorem v20_at (h4 : ∀ j, x4 j = 0) (h : Fin 12) (r : Fin 2048) (d : Fin 64) :
    val_main_v215 (F := Ideal) x0 x3 x4 (ix4 0 h r d) = Spec.proj (specX x0) (specW x3) 1 h r d := by
  rw [← v5_at x0 x3 x4 h4]
  unfold val_main_v215 val_main_v214
  generalize val_main_v5 (F := Ideal) x0 x3 x4 = y
  pointwise

theorem v24_at (h4 : ∀ j, x4 j = 0) (h : Fin 12) (r : Fin 2048) (d : Fin 64) :
    val_main_v219 (F := Ideal) x0 x3 x4 (ix4 0 h r d) = Spec.proj (specX x0) (specW x3) 2 h r d := by
  rw [← v5_at x0 x3 x4 h4]
  unfold val_main_v219 val_main_v218
  generalize val_main_v5 (F := Ideal) x0 x3 x4 = y
  pointwise

variable (κ : Fin 12 → Fin 16 → Fin 256 → Fin 2048) (hκ : ∀ h w z, val_main_v211 (F := Ideal) x1 (ix4 0 h w z) = BitVec.ofNat 32 (κ h w z).val)
include hκ

theorem v18_at (h : Fin 12) (w : Fin 16) (z : Fin 256) (d : Fin 64) :
    val_main_v213 (F := Ideal) x1 (ix4 0 h ⟨w.val * 256 + z.val, by omega⟩ d) = BitVec.ofNat 32 (κ h w z).val := by
  rw [← hκ]
  unfold val_main_v213 val_main_v212
  generalize val_main_v211 (F := Ideal) x1 = y
  pointwise

theorem rowIdx_at (h : Fin 12) (w : Fin 16) (z : Fin 256) (d : Fin 64) :
    val_main_call2_v5 (F := Ideal) x1 (ix4 h ⟨w.val * 256 + z.val, by omega⟩ d 0) = BitVec.ofNat 32 (κ h w z).val := by
  have e : val_main_call2_v5 (F := Ideal) x1 (ix4 h ⟨w.val * 256 + z.val, by omega⟩ d 0)
      = val_main_call2_v4 (F := Ideal) x1 (ix4 0 h ⟨w.val * 256 + z.val, by omega⟩ d) := by
    unfold val_main_call2_v5
    generalize val_main_call2_v4 (F := Ideal) x1 = y
    pointwise
  rw [e, val_main_call2_v4_apply, val_main_call2_v1_apply, val_main_call2_v3_apply, v18_at x1 κ hκ]
  exact wrap_word _

theorem v22_at (h4 : ∀ j, x4 j = 0) (h : Fin 12) (w : Fin 16) (z : Fin 256) (d : Fin 64) :
    val_main_v217 (F := Ideal) x0 x1 x3 x4 (ix5 0 h w z d) = Spec.proj (specX x0) (specW x3) 1 h (κ h w z) d := by
  have e : val_main_v217 (F := Ideal) x0 x1 x3 x4 (ix5 0 h w z d) = val_main_v216 (F := Ideal) x0 x1 x3 x4 (ix4 0 h ⟨w.val * 256 + z.val, by omega⟩ d) := by
    unfold val_main_v217
    generalize val_main_v216 (F := Ideal) x0 x1 x3 x4 = y
    pointwise
  rw [e, ← v20_at x0 x3 x4 h4]
  exact rows_at _ _ h _ d (κ h w z) (rowIdx_at x1 κ hκ h w z d)

theorem v26_at (h4 : ∀ j, x4 j = 0) (h : Fin 12) (w : Fin 16) (z : Fin 256) (d : Fin 64) :
    val_main_v221 (F := Ideal) x0 x1 x3 x4 (ix5 0 h w z d) = Spec.proj (specX x0) (specW x3) 2 h (κ h w z) d := by
  have e : val_main_v221 (F := Ideal) x0 x1 x3 x4 (ix5 0 h w z d) = val_main_v220 (F := Ideal) x0 x1 x3 x4 (ix4 0 h ⟨w.val * 256 + z.val, by omega⟩ d) := by
    unfold val_main_v221
    generalize val_main_v220 (F := Ideal) x0 x1 x3 x4 = y
    pointwise
  rw [e, ← v24_at x0 x3 x4 h4]
  exact rows_at _ _ h _ d (κ h w z) (rowIdx_at x1 κ hκ h w z d)

theorem colIdx_at (h : Fin 12) (w : Fin 16) (a : Fin 128) (z : Fin 256) :
    val_main_call5_v5 (F := Ideal) x1 (ix5 h w a z 0) = BitVec.ofNat 32 (κ h w z).val := by
  have e : val_main_call5_v5 (F := Ideal) x1 (ix5 h w a z 0) = val_main_call5_v4 (F := Ideal) x1 (ix5 0 h w a z) := by
    unfold val_main_call5_v5
    generalize val_main_call5_v4 (F := Ideal) x1 = y
    pointwise
  have e' : val_main_v230 (F := Ideal) x1 (ix5 0 h w a z) = BitVec.ofNat 32 (κ h w z).val := by
    rw [← hκ]
    unfold val_main_v230 val_main_v229
    generalize val_main_v211 (F := Ideal) x1 = y
    pointwise
  rw [e, val_main_call5_v4_apply, val_main_call5_v1_apply, val_main_call5_v3_apply, e']
  exact wrap_word _

theorem v36_at (h : Fin 12) (w : Fin 16) (a : Fin 128) (z : Fin 256) :
    val_main_v231 (F := Ideal) x1 x2 (ix5 0 h w a z) = x2 (ix3 h ⟨w.val * 128 + a.val, by omega⟩ (κ h w z)) := by
  have e : ∀ k : Fin 2048, val_main_v228 (F := Ideal) x2 (ix5 0 h w a k) = x2 (ix3 h ⟨w.val * 128 + a.val, by omega⟩ k) := fun k => by
    unfold val_main_v228
    pointwise
  rw [← e]
  exact cols_at _ _ h w a z (κ h w z) (colIdx_at x1 κ hκ h w a z)

end Cert.ReferenceIdeal.Hand
-- ==== Proof.ReferenceIdeal.EndValue.lean ====
/- The reference's result at an index: the softmax over the kept keys of each row's logits, and the output product. -/
module

public import proofs.«01_k».proof.Proof.ReferenceIdeal.KeptValue

@[expose] public section

noncomputable section

namespace Cert.ReferenceIdeal.Hand

open Cert.ReferenceIdeal Cert.ReferenceIdeal.Gen Cert.ReferenceIdeal.Read Idealize.ShloMosaic Idealize.SL.Sem
open Cert

/-- The maximum of finitely many real numbers, one at least, is real. -/
theorem fold_max_real {ι : Type} (s : Finset ι) (hs : s.Nonempty) (f : ι → EReal) (hf : ∀ i, ∃ a : ℝ, f i = (a : EReal)) :
    ∃ a : ℝ, s.fold max ⊥ f = (a : EReal) := by
  classical
  induction hs using Finset.Nonempty.cons_induction with
  | singleton i =>
    obtain ⟨a, ha⟩ := hf i
    exact ⟨a, by rw [Finset.fold_singleton, ha]; exact max_bot_right _⟩
  | cons i s hi hs ih =>
    obtain ⟨a, ha⟩ := hf i
    obtain ⟨b, hb⟩ := ih
    rw [Finset.fold_cons, ha, hb]
    rcases le_total (a : EReal) (b : EReal) with h | h
    · exact ⟨b, max_eq_right h⟩
    · exact ⟨a, max_eq_left h⟩

variable (x0 : Vec Ideal S1x2048x768 .f32) (x1 : Vec Ideal S1x2048 .i1) (x2 : Vec Ideal S12x2048x2048 .f32) (x3 : Vec Ideal S768x2304 .f32)
variable (x4 : Vec Ideal S2304 .f32) (x5 : Vec Ideal S768x768 .f32) (x6 : Vec Ideal S768 .f32)
variable (κ : Fin 12 → Fin 16 → Fin 256 → Fin 2048) (hκ : ∀ h w z, val_main_v211 (F := Ideal) x1 (ix4 0 h w z) = BitVec.ofNat 32 (κ h w z).val)
variable (h1 : ∀ r, x1 r = 0#1) (h4 : ∀ j, x4 j = 0)
include hκ h4

theorem v37_at (h : Fin 12) (w : Fin 16) (a : Fin 128) (z : Fin 256) :
    val_main_v232 (F := Ideal) x0 x1 x2 x3 x4 (ix5 0 h w a z)
      = Spec.logit (specX x0) (specW x3) (specP x2) h ⟨w.val * 128 + a.val, by omega⟩ (κ h w z) := by
  rw [val_main_v232_apply, v36_at x1 x2 κ hκ, val_main_v227_apply, val_main_v225_apply]
  unfold Spec.logit
  refine congrArg₂ (· + ·) (congrArg₂ (· * ·) (Finset.sum_congr rfl fun d _ => ?_) ?_) rfl
  · rw [← v8_at x0 x3 x4 h4, ← v22_at x0 x1 x3 x4 κ hκ h4]
    refine congrArg₂ (· * ·) (congrArg _ (funext fun b => ?_)) (congrArg _ (funext fun b => ?_))
    · match b with
      | ⟨0, _⟩ => rfl
      | ⟨1, _⟩ => rfl
      | ⟨2, _⟩ => rfl
      | ⟨3, _⟩ => rfl
      | ⟨4, _⟩ => rfl
    · match b with
      | ⟨0, _⟩ => rfl
      | ⟨1, _⟩ => rfl
      | ⟨2, _⟩ => rfl
      | ⟨3, _⟩ => rfl
      | ⟨4, _⟩ => rfl
  · rw [val_main_v226_apply]
    rfl

include h1

theorem v43_at (h : Fin 12) (w : Fin 16) (a : Fin 128) (z : Fin 256) :
    val_main_v238 (F := Ideal) x0 x1 x2 x3 x4 (ix5 0 h w a z)
      = Spec.logit (specX x0) (specW x3) (specP x2) h ⟨w.val * 128 + a.val, by omega⟩ (κ h w z) := by
  have e : val_main_v237 (F := Ideal) x1 (ix5 0 h w a z) = 0#1 := by
    rw [val_main_v237_apply, val_main_v235_apply, val_main_v233_apply, val_main_v10_apply, val_main_v9_apply, h1]
    exact BitVec.zero_and
  rw [val_main_v238_apply, e, v37_at x0 x1 x2 x3 x4 κ hκ h4]
  rfl

/-- The greatest logit of a row. -/
abbrev topAt (h : Fin 12) (w : Fin 16) (a : Fin 128) : EReal := val_main_v241 (F := Ideal) x0 x1 x2 x3 x4 (ix4 0 h w a)

omit h4 hκ h1 in
theorem negInf : (Ideal.ofBits .f32 0xFF800000#32 : EReal) = ⊥ := by simp [Ideal.ofBits, Ideal.ieee]

theorem top_real (h : Fin 12) (w : Fin 16) (a : Fin 128)
    (hl : ∀ r j, ∃ l : ℝ, Spec.logit (specX x0) (specW x3) (specP x2) h r j = (l : EReal)) :
    ∃ m : ℝ, topAt x0 x1 x2 x3 x4 h w a = (m : EReal) := by
  have e : topAt x0 x1 x2 x3 x4 h w a
      = max ⊥ (Finset.univ.fold max ⊥ fun z : Fin 256 => val_main_v238 (F := Ideal) x0 x1 x2 x3 x4 (ix5 0 h w a z)) := by
    unfold topAt
    rw [val_main_v241_apply, val_main_v240_apply, ← negInf]
    unfold val_main_v239
    generalize val_main_v238 (F := Ideal) x0 x1 x2 x3 x4 = y
    pointwise
    rfl
  rw [e]
  obtain ⟨m, hm⟩ := fold_max_real Finset.univ ⟨(0 : Fin 256), Finset.mem_univ _⟩
    (fun z : Fin 256 => val_main_v238 (F := Ideal) x0 x1 x2 x3 x4 (ix5 0 h w a z))
    (fun z => by rw [v43_at x0 x1 x2 x3 x4 κ hκ h1 h4]; exact hl _ _)
  exact ⟨m, by rw [hm]; exact max_bot_left _⟩

/-- The shifted exponential of a kept key's logit. -/
theorem v50_at (h : Fin 12) (w : Fin 16) (a : Fin 128) (z : Fin 256) :
    val_main_v245 (F := Ideal) x0 x1 x2 x3 x4 (ix5 0 h w a z)
      = Ideal.exp (Spec.logit (specX x0) (specW x3) (specP x2) h ⟨w.val * 128 + a.val, by omega⟩ (κ h w z) - topAt x0 x1 x2 x3 x4 h w a) := by
  have e : val_main_v243 (F := Ideal) x0 x1 x2 x3 x4 (ix5 0 h w a z) = topAt x0 x1 x2 x3 x4 h w a := by
    unfold val_main_v243 val_main_v242 topAt
    generalize val_main_v241 (F := Ideal) x0 x1 x2 x3 x4 = y
    pointwise
  rw [val_main_v245_apply, val_main_v244_apply, v43_at x0 x1 x2 x3 x4 κ hκ h1 h4, e]
  rfl

theorem v54_at (h : Fin 12) (w : Fin 16) (a : Fin 128) (z : Fin 256) :
    val_main_v249 (F := Ideal) x0 x1 x2 x3 x4 (ix5 0 h w a z)
      = Ideal.div (Ideal.exp (Spec.logit (specX x0) (specW x3) (specP x2) h ⟨w.val * 128 + a.val, by omega⟩ (κ h w z) - topAt x0 x1 x2 x3 x4 h w a))
        (∑ y : Fin 256, Ideal.exp (Spec.logit (specX x0) (specW x3) (specP x2) h ⟨w.val * 128 + a.val, by omega⟩ (κ h w y) - topAt x0 x1 x2 x3 x4 h w a)) := by
  have e : val_main_v248 (F := Ideal) x0 x1 x2 x3 x4 (ix5 0 h w a z) = val_main_v246 (F := Ideal) x0 x1 x2 x3 x4 (ix4 0 h w a) := by
    unfold val_main_v248 val_main_v247
    generalize val_main_v246 (F := Ideal) x0 x1 x2 x3 x4 = y
    pointwise
  rw [val_main_v249_apply, e, v50_at x0 x1 x2 x3 x4 κ hκ h1 h4, val_main_v246_apply]
  refine congrArg (Ideal.div _) ?_
  refine (congrArg (· + _) (show (_ : EReal) = 0 by exact (by simp [val_main_cst_61, constant, Ideal.ofBits, Ideal.ieee]))).trans ((zero_add _).trans ?_)
  refine Finset.sum_congr rfl fun y _ => ?_
  rw [← v50_at x0 x1 x2 x3 x4 κ hκ h1 h4]
  refine congrArg _ (funext fun b => ?_)
  match b with
  | ⟨0, _⟩ => rfl
  | ⟨1, _⟩ => rfl
  | ⟨2, _⟩ => rfl
  | ⟨3, _⟩ => rfl
  | ⟨4, _⟩ => rfl

/-- The attention over the kept keys. -/
theorem v55_at (h : Fin 12) (w : Fin 16) (a : Fin 128) (d : Fin 64) :
    val_main_v250 (F := Ideal) x0 x1 x2 x3 x4 (ix5 0 h w a d)
      = Spec.refAttn (specX x0) (specW x3) (specP x2) (κ h w) (topAt x0 x1 x2 x3 x4 h w a) h ⟨w.val * 128 + a.val, by omega⟩ d := by
  rw [val_main_v250_apply]
  unfold Spec.refAttn
  refine Finset.sum_congr rfl fun z _ => ?_
  rw [← v54_at x0 x1 x2 x3 x4 κ hκ h1 h4, ← v26_at x0 x1 x3 x4 κ hκ h4]
  refine congrArg₂ (· * ·) (congrArg _ (funext fun b => ?_)) (congrArg _ (funext fun b => ?_))
  · match b with
    | ⟨0, _⟩ => rfl
    | ⟨1, _⟩ => rfl
    | ⟨2, _⟩ => rfl
    | ⟨3, _⟩ => rfl
    | ⟨4, _⟩ => rfl
  · match b with
    | ⟨0, _⟩ => rfl
    | ⟨1, _⟩ => rfl
    | ⟨2, _⟩ => rfl
    | ⟨3, _⟩ => rfl
    | ⟨4, _⟩ => rfl

theorem v57_at (r : Fin 2048) (k : Fin 768) :
    val_main_v252 (F := Ideal) x0 x1 x2 x3 x4 (ix3 0 r k)
      = Spec.refAttn (specX x0) (specW x3) (specP x2) (κ ⟨k.val / 64, by omega⟩ ⟨r.val / 128, by omega⟩)
        (topAt x0 x1 x2 x3 x4 ⟨k.val / 64, by omega⟩ ⟨r.val / 128, by omega⟩ ⟨r.val % 128, by omega⟩) ⟨k.val / 64, by omega⟩ r ⟨k.val % 64, by omega⟩ := by
  have e : val_main_v252 (F := Ideal) x0 x1 x2 x3 x4 (ix3 0 r k) = val_main_v250 (F := Ideal) x0 x1 x2 x3 x4
      (ix5 0 ⟨k.val / 64, by omega⟩ ⟨r.val / 128, by omega⟩ ⟨r.val % 128, by omega⟩ ⟨k.val % 64, by omega⟩) := by
    unfold val_main_v252 val_main_v251
    generalize val_main_v250 (F := Ideal) x0 x1 x2 x3 x4 = y
    pointwise
  rw [e, v55_at x0 x1 x2 x3 x4 κ hκ h1 h4]
  rw [show (⟨r.val / 128 * 128 + r.val % 128, by omega⟩ : Fin 2048) = r from Fin.ext (by show r.val / 128 * 128 + r.val % 128 = r.val; omega)]

/-- The reference's result at an index. -/
theorem end_at (h6 : ∀ j, x6 j = 0) (z : Fin 1) (r : Fin 2048) (b : Fin 768) :
    val_main_v256 (F := Ideal) x0 x1 x2 x3 x4 x5 x6 (ix3 z r b)
      = Spec.result (fun h r d => Spec.refAttn (specX x0) (specW x3) (specP x2) (κ h ⟨r.val / 128, by omega⟩)
          (topAt x0 x1 x2 x3 x4 h ⟨r.val / 128, by omega⟩ ⟨r.val % 128, by omega⟩) h r d) (fun k b => x5 (ix2 k b)) r b := by
  obtain rfl : z = 0 := Subsingleton.elim _ _
  rw [val_main_v256_apply, val_main_v253_apply, val_main_v255_apply, val_main_v254_apply, h6]
  refine (add_zero _).trans (Finset.sum_congr rfl fun k _ => ?_)
  refine congrArg₂ (· * ·) ?_ (congrArg x5 (funext fun c => ?_))
  · refine Eq.trans (congrArg _ (funext fun c => ?_)) (v57_at x0 x1 x2 x3 x4 κ hκ h1 h4 r k)
    match c with
    | ⟨0, _⟩ => rfl
    | ⟨1, _⟩ => rfl
    | ⟨2, _⟩ => rfl
  · match c with
    | ⟨0, _⟩ => rfl
    | ⟨1, _⟩ => rfl

end Cert.ReferenceIdeal.Hand
-- ==== Proof.Ranked.lean ====
/- Reading a `top_k` over the extended reals: entry `k` of a row is the `k`-th in falling order, and its index is that entry's place. -/
module

public import proofs.«01_k».proof.Defs
public import proofs.«01_k».proof.Proof.Select
public import Idealize.ShloMosaic.Lib.Pointwise
public import Idealize.ShloMosaic.Lib.SortFacts

@[expose] public section

noncomputable section

namespace Cert.Ranked

open Idealize.ShloMosaic Idealize.SL.Sem

/-- Whether place `k` comes before place `k'` in falling order. -/
def before (f : Fin 2048 → EReal) (k k' : Fin 2048) : Bool := FloatOps.cmpfTotal (F := Ideal) (φ := .f32) .gt (f k) (f k') == 1#1

/-- The places in falling order. -/
def order (f : Fin 2048 → EReal) : Fin 2048 → Fin 2048 := sortedFrom (before f)

theorem before_iff (f : Fin 2048 → EReal) (k k' : Fin 2048) : before f k k' = true ↔ f k' < f k := by
  have e : before f k k' = (BitVec.ofBool (decide (f k' < f k)) == 1#1) := rfl
  rw [e]
  by_cases h : f k' < f k
  · rw [decide_eq_true h]; simp [h]
  · rw [decide_eq_false h]; simp [h]

/-- The falling order of the negated numbers is the rising order of the numbers. -/
theorem order_rising (a : Fin 2048 → ℝ) (f : Fin 2048 → EReal) (hf : ∀ j, f j = -(a j : EReal)) : Select.Rising a (order f) where
  inj := sortedFrom_injective _
  mono i j hij := by
    rcases eq_or_lt_of_le hij with rfl | hlt
    · exact le_refl _
    have h := sortedFrom_noInversion (before f) (before f)
      (fun p q h => by
        by_contra h'
        rw [Bool.not_eq_false, before_iff] at h'
        rw [before_iff] at h
        exact lt_asymm h h')
      (fun p q h => h)
      (fun p q r h h' => by
        rw [Bool.eq_false_iff, ne_eq, before_iff, not_lt] at h h' ⊢
        exact h.trans h') i j hlt
    rw [Bool.eq_false_iff, ne_eq, before_iff, not_lt, hf, hf, EReal.neg_le_neg_iff, EReal.coe_le_coe_iff] at h
    exact h

section shapes
variable {α : Type} {n : ℕ}

theorem along4 {p q r : ℕ} (b : Fin p) (c : Fin q) (d : Fin r) (z k : Fin n) :
    Shape.Idx.along (s := ⟨4, ![p, q, r, n]⟩) (ix4 b c d z) (3 : Fin 4) k = ix4 b c d k := by
  funext a
  match a with
  | ⟨0, _⟩ => rfl
  | ⟨1, _⟩ => rfl
  | ⟨2, _⟩ => rfl
  | ⟨3, _⟩ => rfl

/-- A sort along the last of four axes, at an index. -/
theorem sort_row {p q r : ℕ} (cmp : α → α → BitVec 1) (x : (⟨4, ![p, q, r, n]⟩ : Shape).Idx → α) (b : Fin p) (c : Fin q) (d : Fin r) (z : Fin n) :
    Host.sort ⟨4, ![p, q, r, n]⟩ 3 cmp x (ix4 b c d z)
      = x (ix4 b c d (sortedFrom (fun k k' => cmp (x (ix4 b c d k)) (x (ix4 b c d k')) == 1#1) z)) := by
  have e : (fun k k' : Fin n => cmp (x (Shape.Idx.along (s := ⟨4, ![p, q, r, n]⟩) (ix4 b c d z) (3 : Fin 4) k))
      (x (Shape.Idx.along (s := ⟨4, ![p, q, r, n]⟩) (ix4 b c d z) (3 : Fin 4) k')) == 1#1)
      = fun k k' => cmp (x (ix4 b c d k)) (x (ix4 b c d k')) == 1#1 :=
    funext fun k => funext fun k' => congrArg₂ (fun u v => cmp (x u) (x v) == 1#1) (along4 b c d z k) (along4 b c d z k')
  rw [← e]
  exact congrArg x (along4 b c d z _)

/-- The second result of a sort of two operands along the last of four axes, at an index. -/
theorem sort2_row {β : Type} {p q r : ℕ} (gt : α → α → BitVec 1) (x : (⟨4, ![p, q, r, n]⟩ : Shape).Idx → α) (y : (⟨4, ![p, q, r, n]⟩ : Shape).Idx → β)
    (b : Fin p) (c : Fin q) (d : Fin r) (z : Fin n) :
    (Host.sort2 ⟨4, ![p, q, r, n]⟩ 3 (fun u v => gt u.1 v.1) x y).2 (ix4 b c d z)
      = y (ix4 b c d (sortedFrom (fun k k' => gt (x (ix4 b c d k)) (x (ix4 b c d k')) == 1#1) z)) := by
  have e : (fun k k' : Fin n => gt (x (Shape.Idx.along (s := ⟨4, ![p, q, r, n]⟩) (ix4 b c d z) (3 : Fin 4) k))
      (x (Shape.Idx.along (s := ⟨4, ![p, q, r, n]⟩) (ix4 b c d z) (3 : Fin 4) k')) == 1#1)
      = fun k k' => gt (x (ix4 b c d k)) (x (ix4 b c d k')) == 1#1 :=
    funext fun k => funext fun k' => congrArg₂ (fun u v => gt (x u) (x v) == 1#1) (along4 b c d z k) (along4 b c d z k')
  rw [← e]
  exact congrArg y (along4 b c d z _)

end shapes

section heads
open Cert.ReferenceIdeal

/-- The indices of a `top_k` along the last axis, by head and window. -/
theorem indices_at (x : Vec Ideal S1x12x16x2048 .f32) (h : S1x12x16x2048.Slices (fun _ => 0) S1x12x16x256) (e : Fin 12) (w : Fin 16) (z : Fin 256) :
    (Host.topK S1x12x16x256 3 (FloatOps.cmpfTotal (F := Ideal) (φ := .f32) .gt) x h).2 (ix4 0 e w z)
      = BitVec.ofNat 32 (order (fun j => x (ix4 0 e w j)) (z.castLE (by decide))).val := by
  have g := sort2_row (FloatOps.cmpfTotal (F := Ideal) (φ := .f32) .gt) x
    (fun i => if hd : 3 < S1x12x16x2048.rank then iotaInDim S1x12x16x2048 32 ⟨3, hd⟩ i else 0#32) 0 e w (z.castLE (by decide : 256 ≤ 2048))
  refine Eq.trans ?_ (g.trans ?_)
  · unfold Host.topK
    dsimp only
    generalize (Host.sort2 _ _ _ _ _).2 = y
    pointwise
    exact congrArg (fun u => y (ix4 0 e w u)) (Fin.ext (by simp))
  · exact dif_pos (by decide)

/-- A sort along the last axis rearranges every row. -/
theorem sort_at (cmp : BitVec 32 → BitVec 32 → BitVec 1) (x : IVec S1x12x16x256 32) (e : Fin 12) (w : Fin 16) :
    ∃ σ : Fin 256 → Fin 256, Function.Injective σ ∧ ∀ z, Host.sort S1x12x16x256 3 cmp x (ix4 0 e w z) = x (ix4 0 e w (σ z)) :=
  ⟨_, sortedFrom_injective _, fun z => sort_row cmp x 0 e w z⟩
end heads

end Cert.Ranked
-- ==== Proof.ReferenceIdeal.DrawRounds.lean ====
/- The twenty rounds of the reference's drawing, pass by pass: each pass is four rounds and the addition of key words. -/
module

public import proofs.«01_k».proof.Proof.Gen.ReferenceIdeal.Read
public import proofs.«01_k».proof.Proof.Words

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Read
open Cert.Words

local notation "B" => bcast_S_S1x12x16x2048

/-- Four rounds of an even pass. -/
abbrev hostEven (p : Pairs S1x12x16x2048) : Pairs S1x12x16x2048 := hrnd B 6 26 (hrnd B 26 6 (hrnd B 15 17 (hrnd B 13 19 p)))

/-- Four rounds of an odd pass. -/
abbrev hostOdd (p : Pairs S1x12x16x2048) : Pairs S1x12x16x2048 := hrnd B 24 8 (hrnd B 16 16 (hrnd B 29 3 (hrnd B 17 15 p)))

theorem first_pass :
    (val_main_v58 (F := Ideal), val_main_v60 (F := Ideal)) = hinject B 42 466689009 (hostEven (val_main_v26 (F := Ideal), val_main_v28 (F := Ideal))) := by
  have e0 : (val_main_v29 (F := Ideal), val_main_v35 (F := Ideal)) = hrnd B 13 19 (val_main_v26 (F := Ideal), val_main_v28 (F := Ideal)) := by
    unfold val_main_v35 val_main_v34 val_main_v33 val_main_v32 val_main_v31 val_main_v30 val_main_v29 val_main_c_2 val_main_c_3
    rfl
  have e1 : (val_main_v36 (F := Ideal), val_main_v42 (F := Ideal)) = hrnd B 15 17 (val_main_v29 (F := Ideal), val_main_v35 (F := Ideal)) := by
    unfold val_main_v42 val_main_v41 val_main_v40 val_main_v39 val_main_v38 val_main_v37 val_main_v36 val_main_c_4 val_main_c_5
    rfl
  have e2 : (val_main_v43 (F := Ideal), val_main_v49 (F := Ideal)) = hrnd B 26 6 (val_main_v36 (F := Ideal), val_main_v42 (F := Ideal)) := by
    unfold val_main_v49 val_main_v48 val_main_v47 val_main_v46 val_main_v45 val_main_v44 val_main_v43 val_main_c_6 val_main_c_7
    rfl
  have e3 : (val_main_v50 (F := Ideal), val_main_v56 (F := Ideal)) = hrnd B 6 26 (val_main_v43 (F := Ideal), val_main_v49 (F := Ideal)) := by
    unfold val_main_v56 val_main_v55 val_main_v54 val_main_v53 val_main_v52 val_main_v51 val_main_v50 val_main_c_8 val_main_c_9
    rfl
  have e4 : (val_main_v58 (F := Ideal), val_main_v60 (F := Ideal)) = hinject B 42 466689009 (val_main_v50 (F := Ideal), val_main_v56 (F := Ideal)) := by
    unfold val_main_v60 val_main_v59 val_main_v58 val_main_v57 val_main_c_10 val_main_c_11
    rfl
  rw [e4, e3, e2, e1, e0]

theorem second_pass :
    (val_main_v90 (F := Ideal), val_main_v92 (F := Ideal)) = hinject B 466689008 2 (hostOdd (val_main_v58 (F := Ideal), val_main_v60 (F := Ideal))) := by
  have e0 : (val_main_v61 (F := Ideal), val_main_v67 (F := Ideal)) = hrnd B 17 15 (val_main_v58 (F := Ideal), val_main_v60 (F := Ideal)) := by
    unfold val_main_v67 val_main_v66 val_main_v65 val_main_v64 val_main_v63 val_main_v62 val_main_v61 val_main_c_12 val_main_c_13
    rfl
  have e1 : (val_main_v68 (F := Ideal), val_main_v74 (F := Ideal)) = hrnd B 29 3 (val_main_v61 (F := Ideal), val_main_v67 (F := Ideal)) := by
    unfold val_main_v74 val_main_v73 val_main_v72 val_main_v71 val_main_v70 val_main_v69 val_main_v68 val_main_c_14 val_main_c_15
    rfl
  have e2 : (val_main_v75 (F := Ideal), val_main_v81 (F := Ideal)) = hrnd B 16 16 (val_main_v68 (F := Ideal), val_main_v74 (F := Ideal)) := by
    unfold val_main_v81 val_main_v80 val_main_v79 val_main_v78 val_main_v77 val_main_v76 val_main_v75 val_main_c_16 val_main_c_17
    rfl
  have e3 : (val_main_v82 (F := Ideal), val_main_v88 (F := Ideal)) = hrnd B 24 8 (val_main_v75 (F := Ideal), val_main_v81 (F := Ideal)) := by
    unfold val_main_v88 val_main_v87 val_main_v86 val_main_v85 val_main_v84 val_main_v83 val_main_v82 val_main_c_18 val_main_c_19
    rfl
  have e4 : (val_main_v90 (F := Ideal), val_main_v92 (F := Ideal)) = hinject B 466689008 2 (val_main_v82 (F := Ideal), val_main_v88 (F := Ideal)) := by
    unfold val_main_v92 val_main_v91 val_main_v90 val_main_v89 val_main_c_20 val_main_c_21
    rfl
  rw [e4, e3, e2, e1, e0]

theorem third_pass :
    (val_main_v122 (F := Ideal), val_main_v124 (F := Ideal)) = hinject B 0 45 (hostEven (val_main_v90 (F := Ideal), val_main_v92 (F := Ideal))) := by
  have e0 : (val_main_v93 (F := Ideal), val_main_v99 (F := Ideal)) = hrnd B 13 19 (val_main_v90 (F := Ideal), val_main_v92 (F := Ideal)) := by
    unfold val_main_v99 val_main_v98 val_main_v97 val_main_v96 val_main_v95 val_main_v94 val_main_v93 val_main_c_22 val_main_c_23
    rfl
  have e1 : (val_main_v100 (F := Ideal), val_main_v106 (F := Ideal)) = hrnd B 15 17 (val_main_v93 (F := Ideal), val_main_v99 (F := Ideal)) := by
    unfold val_main_v106 val_main_v105 val_main_v104 val_main_v103 val_main_v102 val_main_v101 val_main_v100 val_main_c_24 val_main_c_25
    rfl
  have e2 : (val_main_v107 (F := Ideal), val_main_v113 (F := Ideal)) = hrnd B 26 6 (val_main_v100 (F := Ideal), val_main_v106 (F := Ideal)) := by
    unfold val_main_v113 val_main_v112 val_main_v111 val_main_v110 val_main_v109 val_main_v108 val_main_v107 val_main_c_26 val_main_c_27
    rfl
  have e3 : (val_main_v114 (F := Ideal), val_main_v120 (F := Ideal)) = hrnd B 6 26 (val_main_v107 (F := Ideal), val_main_v113 (F := Ideal)) := by
    unfold val_main_v120 val_main_v119 val_main_v118 val_main_v117 val_main_v116 val_main_v115 val_main_v114 val_main_c_28 val_main_c_29
    rfl
  have e4 : (val_main_v122 (F := Ideal), val_main_v124 (F := Ideal)) = hinject B 0 45 (val_main_v114 (F := Ideal), val_main_v120 (F := Ideal)) := by
    unfold val_main_v124 val_main_v123 val_main_v122 val_main_v121 val_main_c_30 val_main_c_31
    rfl
  rw [e4, e3, e2, e1, e0]

theorem fourth_pass :
    (val_main_v154 (F := Ideal), val_main_v156 (F := Ideal)) = hinject B 42 466689012 (hostOdd (val_main_v122 (F := Ideal), val_main_v124 (F := Ideal))) := by
  have e0 : (val_main_v125 (F := Ideal), val_main_v131 (F := Ideal)) = hrnd B 17 15 (val_main_v122 (F := Ideal), val_main_v124 (F := Ideal)) := by
    unfold val_main_v131 val_main_v130 val_main_v129 val_main_v128 val_main_v127 val_main_v126 val_main_v125 val_main_c_32 val_main_c_33
    rfl
  have e1 : (val_main_v132 (F := Ideal), val_main_v138 (F := Ideal)) = hrnd B 29 3 (val_main_v125 (F := Ideal), val_main_v131 (F := Ideal)) := by
    unfold val_main_v138 val_main_v137 val_main_v136 val_main_v135 val_main_v134 val_main_v133 val_main_v132 val_main_c_34 val_main_c_35
    rfl
  have e2 : (val_main_v139 (F := Ideal), val_main_v145 (F := Ideal)) = hrnd B 16 16 (val_main_v132 (F := Ideal), val_main_v138 (F := Ideal)) := by
    unfold val_main_v145 val_main_v144 val_main_v143 val_main_v142 val_main_v141 val_main_v140 val_main_v139 val_main_c_36 val_main_c_37
    rfl
  have e3 : (val_main_v146 (F := Ideal), val_main_v152 (F := Ideal)) = hrnd B 24 8 (val_main_v139 (F := Ideal), val_main_v145 (F := Ideal)) := by
    unfold val_main_v152 val_main_v151 val_main_v150 val_main_v149 val_main_v148 val_main_v147 val_main_v146 val_main_c_38 val_main_c_39
    rfl
  have e4 : (val_main_v154 (F := Ideal), val_main_v156 (F := Ideal)) = hinject B 42 466689012 (val_main_v146 (F := Ideal), val_main_v152 (F := Ideal)) := by
    unfold val_main_v156 val_main_v155 val_main_v154 val_main_v153 val_main_c_40 val_main_c_41
    rfl
  rw [e4, e3, e2, e1, e0]

theorem fifth_pass :
    (val_main_v186 (F := Ideal), val_main_v188 (F := Ideal)) = hinject B 466689008 5 (hostEven (val_main_v154 (F := Ideal), val_main_v156 (F := Ideal))) := by
  have e0 : (val_main_v157 (F := Ideal), val_main_v163 (F := Ideal)) = hrnd B 13 19 (val_main_v154 (F := Ideal), val_main_v156 (F := Ideal)) := by
    unfold val_main_v163 val_main_v162 val_main_v161 val_main_v160 val_main_v159 val_main_v158 val_main_v157 val_main_c_42 val_main_c_43
    rfl
  have e1 : (val_main_v164 (F := Ideal), val_main_v170 (F := Ideal)) = hrnd B 15 17 (val_main_v157 (F := Ideal), val_main_v163 (F := Ideal)) := by
    unfold val_main_v170 val_main_v169 val_main_v168 val_main_v167 val_main_v166 val_main_v165 val_main_v164 val_main_c_44 val_main_c_45
    rfl
  have e2 : (val_main_v171 (F := Ideal), val_main_v177 (F := Ideal)) = hrnd B 26 6 (val_main_v164 (F := Ideal), val_main_v170 (F := Ideal)) := by
    unfold val_main_v177 val_main_v176 val_main_v175 val_main_v174 val_main_v173 val_main_v172 val_main_v171 val_main_c_46 val_main_c_47
    rfl
  have e3 : (val_main_v178 (F := Ideal), val_main_v184 (F := Ideal)) = hrnd B 6 26 (val_main_v171 (F := Ideal), val_main_v177 (F := Ideal)) := by
    unfold val_main_v184 val_main_v183 val_main_v182 val_main_v181 val_main_v180 val_main_v179 val_main_v178 val_main_c_48 val_main_c_49
    rfl
  have e4 : (val_main_v186 (F := Ideal), val_main_v188 (F := Ideal)) = hinject B 466689008 5 (val_main_v178 (F := Ideal), val_main_v184 (F := Ideal)) := by
    unfold val_main_v188 val_main_v187 val_main_v186 val_main_v185 val_main_c_50 val_main_c_51
    rfl
  rw [e4, e3, e2, e1, e0]

end Cert.ReferenceIdeal.Hand
-- ==== Proof.ReferenceIdeal.DrawValue.lean ====
/- The scores `ReferenceIdeal` draws, entry by entry: the score of `Words`. -/
module

public import proofs.«01_k».proof.Proof.ReferenceIdeal.DrawRounds

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Read
open Cert.Words

theorem host_counter_at (h : Fin 12) (w : Fin 16) (j : Fin 2048) :
    Pairs.at (val_main_v26 (F := Ideal), val_main_v28 (F := Ideal)) (ix4 0 h w j)
      = (0, BitVec.ofNat 32 ((h.val * 16 + w.val) * 2048 + j.val) + 42) := by
  refine Prod.ext ?_ ?_
  · unfold Pairs.at val_main_v26 val_main_v24 val_main_v25 val_main_c val_main_c_0
    pointwise
    rfl
  · unfold Pairs.at val_main_v28 val_main_v27 val_main_v23 val_main_v22 val_main_c_1
    pointwise
    have e : h.val * 32768 + w.val * 2048 + j.val = (h.val * 16 + w.val) * 2048 + j.val := by omega
    rw [e]
    rfl

theorem host_state_at (h : Fin 12) (w : Fin 16) (j : Fin 2048) :
    Pairs.at (val_main_v186 (F := Ideal), val_main_v188 (F := Ideal)) (ix4 0 h w j) = cipher (BitVec.ofNat 32 ((h.val * 16 + w.val) * 2048 + j.val)) := by
  rw [fifth_pass, fourth_pass, third_pass, second_pass, first_pass]
  simp only [hinject_at, hrnd_at _ 13 19 (by decide) (by decide), hrnd_at _ 15 17 (by decide) (by decide), hrnd_at _ 26 6 (by decide) (by decide),
    hrnd_at _ 6 26 (by decide) (by decide), hrnd_at _ 17 15 (by decide) (by decide), hrnd_at _ 29 3 (by decide) (by decide),
    hrnd_at _ 16 16 (by decide) (by decide), hrnd_at _ 24 8 (by decide) (by decide)]
  unfold cipher even odd
  rw [← host_counter_at h w j]

theorem host_word_at (h : Fin 12) (w : Fin 16) (j : Fin 2048) :
    val_main_v189 (F := Ideal) (ix4 0 h w j) = word (BitVec.ofNat 32 ((h.val * 16 + w.val) * 2048 + j.val)) := by
  unfold word
  rw [← host_state_at h w j, val_main_v189_apply]
  rfl

theorem host_distance_at (h : Fin 12) (w : Fin 16) (j : Fin 2048) :
    val_main_v205 (F := Ideal) (ix4 0 h w j) = (((Words.dist w j : ℕ) : ℝ) : EReal) := by
  have hd := dist_words ⟨j.val / 128, by omega⟩ w
  have e : val_main_v205 (F := Ideal) (ix4 0 h w j)
      = (((IntOp.absi (IntOp.subi (BitVec.ofNat 32 (j.val / 128)) (BitVec.ofNat 32 w.val))).toInt : ℝ) : EReal) := by
    unfold val_main_v205 val_main_v21 val_main_v20 val_main_v19 val_main_v18 val_main_v17 val_main_v16 val_main_v15 val_main_v14 val_main_v13 val_main_v12 val_main_v11
    pointwise
    rfl
  rw [e, hd, Int.cast_natCast]
  unfold Words.dist
  have hs : (if j.val / 128 ≤ w.val then w.val - j.val / 128 else j.val / 128 - w.val) = if w.val ≤ j.val / 128 then j.val / 128 - w.val else w.val - j.val / 128 := by
    split <;> split <;> omega
  exact congrArg (fun n : ℕ => ((n : ℝ) : EReal)) hs

theorem host_lit (a : BitVec 32) (i : S1x12x16x2048.Idx) :
    (broadcastInDim S1x12x16x2048 ![] bcast_S_S1x12x16x2048 (constant (F := Ideal) S_ .f32 a) : FVec Ideal S1x12x16x2048 .f32) i = Ideal.ofBits .f32 a := by
  pointwise

/-- The score of head `h` and window `w` at position `j`, as the reference draws it. -/
theorem host_score_at (h : Fin 12) (w : Fin 16) (j : Fin 2048) :
    val_main_v206 (F := Ideal) (ix4 0 h w j) = scoreAt ⟨h.val * 16 + w.val, by omega⟩ j := by
  have hm : (h.val * 16 + w.val) % 16 = w.val := by omega
  have e9 : val_main_v190 (F := Ideal) (ix4 0 h w j) = 9#32 := by
    unfold val_main_v190 val_main_c_52
    pointwise
  have e1 : val_main_v192 (F := Ideal) (ix4 0 h w j) = 1065353216#32 := by
    unfold val_main_v192 val_main_c_53
    pointwise
  have l1 : val_main_v195 (F := Ideal) (ix4 0 h w j) = 1 := (host_lit _ _).trans lit_one
  have l2 : val_main_v200 (F := Ideal) (ix4 0 h w j) = 2 := (host_lit _ _).trans lit_two
  have l3 : val_main_v203 (F := Ideal) (ix4 0 h w j) = 3 := (host_lit _ _).trans lit_three
  rw [val_main_v206_apply, host_distance_at, val_main_v204_apply, l3, val_main_v202_apply, val_main_v201_apply, l2, val_main_v199_apply, val_main_v198_apply,
    val_main_v197_apply, val_main_v196_apply, l1, val_main_v194_apply, val_main_v193_apply, e1, val_main_v191_apply, e9, host_word_at]
  unfold scoreAt score
  simp only [hm]
  generalize word (BitVec.ofNat 32 ((h.val * 16 + w.val) * 2048 + j.val)) = x
  have hs : IntOp.shrui .host x 9#32 = x >>> 9#32 := if_pos (by decide)
  have hdiv : ∀ y : EReal, Ideal.div y 2 = y / 2 := fun y => if_neg (by norm_num)
  rw [hs, ← hdiv]
  rfl

end Cert.ReferenceIdeal.Hand
-- ==== Proof.ReferenceIdeal.Chosen.lean ====
/- The positions the reference keeps: with no position masked, the places of the 256 largest negated scores, rearranged. -/
module

public import proofs.«01_k».proof.Proof.Gen.ReferenceIdeal.Read
public import proofs.«01_k».proof.Proof.Ranked
public import proofs.«01_k».proof.Proof.ReferenceIdeal.DrawValue

@[expose] public section

noncomputable section

namespace Cert.ReferenceIdeal.Hand

open Idealize.ShloMosaic Idealize.ShloMosaic.TcCoe
open Cert.ReferenceIdeal Cert.ReferenceIdeal.Gen Cert.ReferenceIdeal.Read

variable (x1 : IVec S1x2048 1)

/-- The scores of head `h` and window `w`, negated. -/
abbrev negated (h : Fin 12) (w : Fin 16) : Fin 2048 → EReal := fun j => -(Words.scoreAt ⟨h.val * 16 + w.val, by omega⟩ j)

theorem flag_at (hm : ∀ i, x1 i = 0#1) (h : Fin 12) (w : Fin 16) (j : Fin 2048) : val_main_v208 (F := Ideal) x1 (ix4 0 h w j) = 0#1 := by
  unfold val_main_v208 val_main_v207
  pointwise
  exact hm _

theorem negated_at (hm : ∀ i, x1 i = 0#1) (h : Fin 12) (w : Fin 16) (j : Fin 2048) :
    val_main_v210 (F := Ideal) x1 (ix4 0 h w j) = negated h w j := by
  rw [val_main_v210_apply, val_main_v209_apply, flag_at x1 hm, host_score_at]
  rfl

/-- The kept positions of a head and window: all different, and those of the first 256 places in falling order. -/
theorem chosen (hm : ∀ i, x1 i = 0#1) (h : Fin 12) (w : Fin 16) :
    ∃ κ : Fin 256 → Fin 2048, Function.Injective κ ∧ (∀ z, val_main_v211 (F := Ideal) x1 (ix4 0 h w z) = BitVec.ofNat 32 (κ z).val)
      ∧ ∀ j, (∃ z, κ z = j) ↔ ∃ k : Fin 256, Ranked.order (negated h w) (k.castLE (by decide)) = j := by
  obtain ⟨σ, hσ, e⟩ := Ranked.sort_at comparator_i32_d3 (val_main_indices (F := Ideal) x1) h w
  have hs : Function.Surjective σ := (Finite.injective_iff_bijective.mp hσ).2
  have er : (fun j => val_main_v210 (F := Ideal) x1 (ix4 0 h w j)) = negated h w := funext fun j => negated_at x1 hm h w j
  refine ⟨fun z => Ranked.order (negated h w) ((σ z).castLE (by decide)), ?_, fun z => ?_, fun j => ⟨?_, ?_⟩⟩
  · exact fun z z' g => hσ (Fin.castLE_injective _ (sortedFrom_injective _ g))
  · refine (e z).trans ?_
    rw [← er]
    exact Ranked.indices_at (val_main_v210 (F := Ideal) x1) _ h w (σ z)
  · exact fun ⟨z, g⟩ => ⟨σ z, g⟩
  · rintro ⟨k, g⟩
    obtain ⟨z, rfl⟩ := hs k
    exact ⟨z, g⟩

end Cert.ReferenceIdeal.Hand
-- ==== Proof.Premise.lean ====
/- What the precondition says of the arguments: finite entries are real numbers (of the projection weights those of queries and keys), the mask and the biases are zero. -/
module

public import proofs.«01_k».proof.Defs
public import Idealize.ShloMosaic.Lib.Pointwise

@[expose] public section

noncomputable section

namespace Cert.Premise

open Idealize.ShloMosaic Idealize.SL.Sem Cert.Pre_premise Cert.Pre_premise.Facts

/-- The shape facts the precondition's program takes. -/
theorem facts : Cert.Pre_premise.Facts where
  bcast_S_S1x2048x768 := by decide +kernel
  bcast_S_S12x2048x2048 := by decide +kernel
  shapeCasts_S768x2304_S768x768x3 := by decide +kernel
  slices_S768x768x3_S768x768x2_0_0_0 := by decide +kernel
  bcast_S_S768x768x2 := by decide +kernel
  bcast_S_S2304 := by decide +kernel
  bcast_S_S768 := by decide +kernel

theorem bit_one (p : Bool) (h : BitVec.ofBool p = 1#1) : p = true := by cases p <;> simp_all

/-- A number whose absolute value is below infinity is real. -/
theorem real_of_abs (x : EReal) (h : Ideal.cmp .olt (max x (-x)) (Ideal.ofBits .f32 0x7F800000#32) = 1#1) : ∃ a : ℝ, x = (a : EReal) := by
  have h' : max x (-x) < (⊤ : EReal) := by
    have e : (Ideal.ofBits .f32 0x7F800000#32 : EReal) = ⊤ := by simp [Ideal.ofBits, Ideal.ieee]
    rw [e] at h
    exact of_decide_eq_true (bit_one _ h)
  induction x using EReal.rec with
  | bot => simp at h'
  | coe a => exact ⟨a, rfl⟩
  | top => simp at h'

theorem zero_of_eq (x : EReal) (h : Ideal.cmp .oeq x (Ideal.ofBits .f32 0x00000000#32) = 1#1) : x = 0 := by
  have e : (Ideal.ofBits .f32 0x00000000#32 : EReal) = 0 := by simp [Ideal.ofBits, Ideal.ieee]
  rw [e] at h
  exact of_decide_eq_true (bit_one _ h)

variable (x0 : FVec Ideal S1x2048x768 .f32) (x1 : IVec S1x2048 1) (x2 : FVec Ideal S12x2048x2048 .f32) (x3 : FVec Ideal S768x2304 .f32)
variable (x4 : FVec Ideal S2304 .f32) (x5 : FVec Ideal S768x768 .f32) (x6 : FVec Ideal S768 .f32)

/-- The six conditions of the precondition. -/
abbrev Holds [Cert.Pre_premise.Facts] : Prop :=
  (fn (F := Ideal) x0 x1 x2 x3 x4 x5 x6).1 = (fun _ => 1#1)
  ∧ (fn (F := Ideal) x0 x1 x2 x3 x4 x5 x6).2.1 = (fun _ => 1#1)
  ∧ (fn (F := Ideal) x0 x1 x2 x3 x4 x5 x6).2.2.1 = (fun _ => 1#1)
  ∧ (fn (F := Ideal) x0 x1 x2 x3 x4 x5 x6).2.2.2.1 = (fun _ => 1#1)
  ∧ (fn (F := Ideal) x0 x1 x2 x3 x4 x5 x6).2.2.2.2.1 = (fun _ => 1#1)
  ∧ (fn (F := Ideal) x0 x1 x2 x3 x4 x5 x6).2.2.2.2.2 = (fun _ => 1#1)

section
variable [Cert.Pre_premise.Facts]
variable {x0 x1 x2 x3 x4 x5 x6}
variable (H : Holds x0 x1 x2 x3 x4 x5 x6)
include H

theorem x_real (i : S1x2048x768.Idx) : ∃ a : ℝ, x0 i = (a : EReal) :=
  real_of_abs _ (congrFun H.1 i)

theorem mask_false (i : S1x2048.Idx) : x1 i = 0#1 := by
  have e : ~~~ (x1 i) = 1#1 := congrFun H.2.1 i
  generalize x1 i = b at e ⊢
  revert b
  decide

theorem pos_real (i : S12x2048x2048.Idx) : ∃ a : ℝ, x2 i = (a : EReal) :=
  real_of_abs _ (congrFun H.2.2.1 i)

/-- The weights of queries (`s = 0`) and keys (`s = 1`) are real; those of values, every third column, are free. -/
theorem weight_real (s : Fin 2) (k j : Fin 768) : ∃ a : ℝ, x3 (ix2 k ⟨j.val * 3 + s.val, by omega⟩) = (a : EReal) := by
  obtain ⟨a, e⟩ := real_of_abs _ (congrFun H.2.2.2.1 (ix3 k j s))
  refine ⟨a, Eq.trans ?_ e⟩
  pointwise

theorem qkvBias_zero (i : S2304.Idx) : x4 i = 0 :=
  zero_of_eq _ (congrFun H.2.2.2.2.1 i)

theorem outBias_zero (i : S768.Idx) : x6 i = 0 :=
  zero_of_eq _ (congrFun H.2.2.2.2.2 i)

end

end Cert.Premise
-- ==== Proof.Packed.lean ====
/- The scores of a row counted on packed words: the 2048 words of a row lie in one natural number, 64 bits to a word, and every step of
   the cipher is a few operations on it. -/
module

public import Idealize.ShloMosaic.Lib.Pointwise

@[expose] public section

namespace Cert.Packed

/-- A one in each of the first `n` lanes. -/
def ones (n : ℕ) : ℕ := (2 ^ (64 * n) - 1) / (2 ^ 64 - 1)

/-- `k` bits of every lane from bit `s` on. -/
def pick (s k N : ℕ) : ℕ := (N / 2 ^ s) &&& ((2 ^ k - 1) * ones 2048)

/-- The lanes' own numbers, `2^k` of them. -/
def places : ℕ → ℕ
  | 0 => 0
  | k + 1 => places k + 2 ^ (64 * 2 ^ k) * (places k + 2 ^ k * ones (2 ^ k))

/-- Lanes that hold `c b` in the block `b` of 128, the first `n` blocks. -/
def blocks (c : ℕ → ℕ) : ℕ → ℕ
  | 0 => 0
  | n + 1 => blocks c n + 2 ^ (64 * (128 * n)) * (c n * ones 128)

/-- A round on all lanes: add, rotate the second word by `a`, exclusive or. -/
def rnd (a : ℕ) (P : ℕ × ℕ) : ℕ × ℕ :=
  (pick 0 32 (P.1 + P.2), (pick 0 32 (P.2 * 2 ^ a) ||| pick 32 32 (P.2 * 2 ^ a)) ^^^ pick 0 32 (P.1 + P.2))

/-- The key's words added on all lanes. -/
def inject (k l : ℕ) (P : ℕ × ℕ) : ℕ × ℕ := (pick 0 32 (P.1 + k * ones 2048), pick 0 32 (P.2 + l * ones 2048))

def even (P : ℕ × ℕ) : ℕ × ℕ := rnd 6 (rnd 26 (rnd 15 (rnd 13 P)))
def odd (P : ℕ × ℕ) : ℕ × ℕ := rnd 24 (rnd 16 (rnd 29 (rnd 17 P)))

/-- The states of the words of row `g` after the twenty rounds. -/
def cipher (g : ℕ) : ℕ × ℕ :=
  inject 466689008 5 (even (inject 42 466689012 (odd (inject 0 45 (even
    (inject 466689008 2 (odd (inject 42 466689009 (even (0, places 11 + (g * 2048 + 42) * ones 2048))))))))))

/-- The 23 upper bits of the words of row `g`. -/
def fraction (g : ℕ) : ℕ := pick 9 23 ((cipher g).1 ^^^ (cipher g).2)

/-- The distance of window `w` to block `b`. -/
def dist (w b : ℕ) : ℕ := if w ≤ b then b - w else w - b

/-- The greatest `m` with `m * (d + t / 2^20)^2 ≤ 9 * 2^23`. -/
def cut (t d : ℕ) : ℕ := (9 * 2 ^ 23 * 2 ^ 40) / (d * 2 ^ 20 + t) ^ 2

/-- How many scores of row `g` are at most `-t / 2^20`. -/
def count (g t : ℕ) : ℕ :=
  pick 32 1 (fraction g + blocks (fun b => 2 ^ 32 - (2 ^ 23 - cut t (dist (g % 16) b))) 16) % (2 ^ 64 - 1)

/-- For every row a number between its 256th and its 257th least score, negated and in units of `2^-20`. -/
def between : List ℕ := [
  4410004, 4392368, 5064446, 4945420, 5454549, 5818803, 5963099, 5590466, 5706203, 5502411, 5693582, 5384593, 5582288, 4948299, 5120856, 4483030,
  4309561, 4527214, 5009023, 4908359, 5472106, 5491621, 5954495, 6080098, 5019698, 5736197, 5486353, 5757074, 5407379, 5145755, 4803396, 3963156,
  4442823, 5019098, 4895785, 5127607, 5682209, 5185785, 5960820, 5557581, 5594550, 5664028, 5183362, 5382191, 5463637, 5061917, 4868723, 4291641,
  4258541, 4684654, 5100753, 5380081, 5600420, 5432484, 5597062, 5820151, 5772268, 5612440, 5928260, 5974482, 5217961, 4733957, 4631737, 4087267,
  4115294, 4942062, 5048899, 5150222, 5729822, 6008051, 5730965, 5622999, 5728861, 5653500, 6112042, 5548278, 5306336, 5485663, 4869692, 4196800,
  4087552, 5042368, 5104491, 5404953, 5642335, 5284300, 5600110, 5827643, 5264478, 6059403, 5212637, 5542760, 5264286, 5126058, 4735360, 4353602,
  4482245, 4647083, 5558780, 5670537, 5478386, 5415871, 5544394, 5488805, 5940193, 5934909, 5801396, 5198453, 5472163, 5295220, 4611526, 4235587,
  4190307, 4376410, 5065303, 5698969, 5236633, 5879249, 5744495, 5816439, 5711241, 6109914, 5439416, 5266879, 5157325, 5044811, 4776338, 4244571,
  4244269, 5199675, 4701226, 5165809, 5213375, 5645783, 5523399, 5530014, 5617895, 5407119, 5260655, 5319259, 5376709, 5377198, 5043127, 4265657,
  4493957, 5148626, 5051637, 5531092, 5506672, 5331332, 5328479, 5470003, 5508106, 5420657, 5635656, 5752876, 5245714, 4997214, 4807071, 4612009,
  4457516, 5036822, 5102154, 5622958, 5544669, 6150328, 5691264, 5694141, 5789065, 5559648, 5773294, 5575571, 5298951, 5108869, 4464250, 4508567,
  4209260, 5164713, 5362186, 5119462, 5466149, 5626206, 5296295, 5629519, 5499849, 6125955, 5319080, 5626327, 5179288, 4921481, 4833487, 4454339]

/-- The numbers just above and below part the 256 least scores of a row from the others. -/
def parts (g : ℕ) : Bool := let t := between.getD g 0; Nat.ble 256 (count g t) && Nat.ble (count g (t - 1)) 256 && Nat.ble 2 t

end Cert.Packed
-- ==== Proof.Lanes.lean ====
/- The packed words of `Packed` hold the words of `Words`, and `Packed.count` counts what it says. -/
module

public import proofs.«01_k».proof.Proof.Packed
public import proofs.«01_k».proof.Proof.Words

@[expose] public section

namespace Cert.Packed

/-- The number whose lanes of 64 bits hold `f 0`, `f 1`, … -/
def enc : ℕ → (ℕ → ℕ) → ℕ
  | 0, _ => 0
  | n + 1, f => f 0 + 2 ^ 64 * enc n (fun i => f (i + 1))

theorem enc_succ (n : ℕ) (f : ℕ → ℕ) : enc (n + 1) f = f 0 + 2 ^ 64 * enc n (fun i => f (i + 1)) := rfl

theorem enc_congr {n : ℕ} {f g : ℕ → ℕ} (h : ∀ i < n, f i = g i) : enc n f = enc n g := by
  induction n generalizing f g with
  | zero => rfl
  | succ n ih =>
    unfold enc
    rw [h 0 (by omega), ih fun i hi => h (i + 1) (by omega)]

theorem enc_add (n : ℕ) (f g : ℕ → ℕ) : enc n f + enc n g = enc n (fun i => f i + g i) := by
  induction n generalizing f g with
  | zero => rfl
  | succ n ih =>
    unfold enc
    rw [← ih]
    ring

theorem enc_mul (n c : ℕ) (f : ℕ → ℕ) : enc n f * c = enc n (fun i => f i * c) := by
  induction n generalizing f with
  | zero => exact Nat.zero_mul c
  | succ n ih =>
    unfold enc
    rw [← ih]
    ring

theorem enc_append (a b : ℕ) (f : ℕ → ℕ) : enc (a + b) f = enc a f + 2 ^ (64 * a) * enc b (fun i => f (a + i)) := by
  induction a generalizing f with
  | zero => simp [enc]
  | succ a ih =>
    rw [show a + 1 + b = (a + b) + 1 by omega]
    rw [enc_succ, enc_succ, ih, show (fun i => f (a + i + 1)) = fun i => f (a + 1 + i) from funext fun i => congrArg f (by omega)]
    ring

theorem ones_enc (n : ℕ) : ones n = enc n (fun _ => 1) := by
  have h : enc n (fun _ => 1) * (2 ^ 64 - 1) + 1 = 2 ^ (64 * n) := by
    induction n with
    | zero => rfl
    | succ n ih =>
      unfold enc
      rw [show 64 * (n + 1) = 64 * n + 64 by ring, pow_add, ← ih]
      ring
  unfold ones
  rw [← h, Nat.add_sub_cancel]
  exact Nat.mul_div_cancel _ (by norm_num)

theorem const_enc (c n : ℕ) : c * ones n = enc n (fun _ => c) := by
  rw [ones_enc, mul_comm, enc_mul]
  simp only [one_mul]

theorem places_enc (k : ℕ) : places k = enc (2 ^ k) (fun i => i) := by
  induction k with
  | zero => rfl
  | succ k ih =>
    rw [places, pow_succ, mul_two, enc_append, ih, const_enc, enc_add, enc_congr (f := fun i => i + 2 ^ k) fun i _ => Nat.add_comm _ _]

theorem blocks_enc (c : ℕ → ℕ) (n : ℕ) : blocks c n = enc (128 * n) (fun i => c (i / 128)) := by
  induction n with
  | zero => rfl
  | succ n ih =>
    rw [blocks, mul_add, mul_one, enc_append, ih, const_enc, enc_congr (f := fun _ => c n) fun i hi => congrArg c (show n = (128 * n + i) / 128 by omega)]

theorem low (x a : ℕ) (hx : x < 2 ^ 64) : (x + 2 ^ 64 * a) % 2 ^ 64 = x := by omega
theorem high (x a : ℕ) (hx : x < 2 ^ 64) : (x + 2 ^ 64 * a) / 2 ^ 64 = a := by omega

theorem xor_enc (n : ℕ) (f g : ℕ → ℕ) (hf : ∀ i < n, f i < 2 ^ 64) (hg : ∀ i < n, g i < 2 ^ 64) :
    enc n f ^^^ enc n g = enc n (fun i => f i ^^^ g i) := by
  induction n generalizing f g with
  | zero => simp [enc]
  | succ n ih =>
    unfold enc
    have h0 := hf 0 (by omega)
    have h1 := hg 0 (by omega)
    rw [← Nat.mod_add_div ((f 0 + _) ^^^ _) (2 ^ 64), Nat.xor_mod_two_pow, Nat.xor_div_two_pow, low _ _ h0, low _ _ h1, high _ _ h0, high _ _ h1,
      ih _ _ (fun i hi => hf _ (by omega)) fun i hi => hg _ (by omega)]

theorem or_enc (n : ℕ) (f g : ℕ → ℕ) (hf : ∀ i < n, f i < 2 ^ 64) (hg : ∀ i < n, g i < 2 ^ 64) :
    enc n f ||| enc n g = enc n (fun i => f i ||| g i) := by
  induction n generalizing f g with
  | zero => simp [enc]
  | succ n ih =>
    unfold enc
    have h0 := hf 0 (by omega)
    have h1 := hg 0 (by omega)
    rw [← Nat.mod_add_div ((f 0 + _) ||| _) (2 ^ 64), Nat.or_mod_two_pow, Nat.or_div_two_pow, low _ _ h0, low _ _ h1, high _ _ h0, high _ _ h1,
      ih _ _ (fun i hi => hf _ (by omega)) fun i hi => hg _ (by omega)]

/-- Cutting `k` bits from bit `s` on out of all lanes. -/
theorem mask_enc (s k n : ℕ) (hsk : s + k ≤ 64) (f : ℕ → ℕ) (hf : ∀ i < n, f i < 2 ^ 64) :
    enc n f / 2 ^ s &&& enc n (fun _ => 2 ^ k - 1) = enc n (fun i => f i / 2 ^ s % 2 ^ k) := by
  induction n generalizing f with
  | zero => simp [enc]
  | succ n ih =>
    unfold enc
    have h0 := hf 0 (by omega)
    have hk : 2 ^ k - 1 < 2 ^ 64 := lt_of_lt_of_le (Nat.sub_lt (by positivity) one_pos) (Nat.pow_le_pow_right (by norm_num) (by omega))
    rw [← Nat.mod_add_div (_ &&& _) (2 ^ 64), Nat.and_mod_two_pow, Nat.and_div_two_pow, low _ _ hk, high _ _ hk,
      Nat.div_div_eq_div_mul _ (2 ^ s) (2 ^ 64), mul_comm (2 ^ s) (2 ^ 64), ← Nat.div_div_eq_div_mul _ (2 ^ 64) (2 ^ s), high _ _ h0,
      ih _ fun i hi => hf _ (by omega), Nat.and_two_pow_sub_one_eq_mod,
      Nat.mod_mod_of_dvd _ (Nat.pow_dvd_pow 2 (show k ≤ 64 by omega))]
    refine congrArg (· + _) ?_
    have e : (2 : ℕ) ^ 64 = 2 ^ s * (2 ^ k * 2 ^ (64 - s - k)) := by
      rw [← pow_add, ← pow_add]
      congr 1
      omega
    rw [e, mul_assoc, Nat.add_mul_div_left _ _ (by positivity), mul_assoc, Nat.add_mul_mod_self_left]

theorem pick_enc (s k : ℕ) (hsk : s + k ≤ 64) (f : ℕ → ℕ) (hf : ∀ i < 2048, f i < 2 ^ 64) :
    pick s k (enc 2048 f) = enc 2048 (fun i => f i / 2 ^ s % 2 ^ k) := by
  unfold pick
  rw [const_enc]
  exact mask_enc s k 2048 hsk f hf

theorem enc_mod (n : ℕ) (f : ℕ → ℕ) : enc n f % (2 ^ 64 - 1) = (∑ i ∈ Finset.range n, f i) % (2 ^ 64 - 1) := by
  induction n generalizing f with
  | zero => rfl
  | succ n ih =>
    unfold enc
    rw [Finset.sum_range_succ', Nat.add_mod, Nat.mul_mod, ih, add_comm _ (f 0), Nat.add_mod (f 0)]
    norm_num

/-- The pair of numbers holds the pairs of words. -/
def Has (P : ℕ × ℕ) (p : ℕ → Words.Pair) : Prop :=
  P.1 = enc 2048 (fun i => (p i).1.toNat) ∧ P.2 = enc 2048 (fun i => (p i).2.toNat)

theorem word_lt (v : BitVec 32) : v.toNat < 2 ^ 32 := v.isLt

theorem sum_has (f g : ℕ → BitVec 32) :
    pick 0 32 (enc 2048 (fun i => (f i).toNat) + enc 2048 (fun i => (g i).toNat)) = enc 2048 (fun i => (f i + g i).toNat) := by
  rw [enc_add, pick_enc 0 32 (by norm_num) _ fun i _ => by have := word_lt (f i); have := word_lt (g i); omega]
  refine enc_congr fun i _ => ?_
  rw [BitVec.toNat_add, pow_zero, Nat.div_one]

theorem rotate (a b : BitVec 32) (s : ℕ) (ha : a.toNat = s) (hb : s + b.toNat = 32) (v : BitVec 32) :
    (v.toNat * 2 ^ s / 2 ^ 0 % 2 ^ 32) ||| (v.toNat * 2 ^ s / 2 ^ 32 % 2 ^ 32) = (Words.rotl a b v).toNat := by
  have hv := word_lt v
  unfold Words.rotl
  rw [BitVec.toNat_or, BitVec.shiftLeft_eq', BitVec.toNat_shiftLeft, Nat.shiftLeft_eq, ha, BitVec.ushiftRight_eq', BitVec.toNat_ushiftRight,
    Nat.shiftRight_eq_div_pow, pow_zero, Nat.div_one]
  refine congrArg (fun z : ℕ => (v.toNat * 2 ^ s % 2 ^ 32) ||| z) ?_
  have e : (2 : ℕ) ^ 32 = 2 ^ b.toNat * 2 ^ s := by
    rw [← pow_add]
    exact congrArg ((2 : ℕ) ^ ·) (by omega)
  rw [show v.toNat * 2 ^ s / 2 ^ 32 = v.toNat / 2 ^ b.toNat by rw [e]; exact Nat.mul_div_mul_right _ _ (by positivity)]
  exact Nat.mod_eq_of_lt (lt_of_le_of_lt (Nat.div_le_self _ _) hv)

theorem rnd_has {P : ℕ × ℕ} {p : ℕ → Words.Pair} (h : Has P p) (a b : BitVec 32) (s : ℕ) (ha : a.toNat = s) (hb : s + b.toNat = 32) :
    Has (rnd s P) (fun i => Words.rnd a b (p i)) := by
  have hs : (2 : ℕ) ^ s ≤ 2 ^ 32 := Nat.pow_le_pow_right (by norm_num) (by omega)
  have e1 : pick 0 32 (P.1 + P.2) = enc 2048 (fun i => ((p i).1 + (p i).2).toNat) := by rw [h.1, h.2, sum_has]
  have hl : ∀ i, (p i).2.toNat * 2 ^ s < 2 ^ 64 := fun i => by
    have := word_lt (p i).2
    calc (p i).2.toNat * 2 ^ s ≤ (p i).2.toNat * 2 ^ 32 := Nat.mul_le_mul_left _ hs
      _ < 2 ^ 64 := by omega
  have hm : ∀ z : ℕ, z % 2 ^ 32 < 2 ^ 64 := fun z => lt_trans (Nat.mod_lt _ (by norm_num)) (by norm_num)
  refine ⟨e1, ?_⟩
  show (pick 0 32 (P.2 * 2 ^ s) ||| pick 32 32 (P.2 * 2 ^ s)) ^^^ pick 0 32 (P.1 + P.2) = _
  rw [e1, h.2, enc_mul, pick_enc 0 32 (by norm_num) _ fun i _ => hl i, pick_enc 32 32 (by norm_num) _ fun i _ => hl i,
    or_enc _ _ _ (fun i _ => hm _) fun i _ => hm _,
    enc_congr (g := fun i => (Words.rotl a b (p i).2).toNat) fun i _ => rotate a b s ha hb (p i).2,
    xor_enc _ _ _ (fun i _ => lt_trans (word_lt _) (by norm_num)) fun i _ => lt_trans (word_lt _) (by norm_num)]
  exact enc_congr fun i _ => (BitVec.toNat_xor _ _).symm

theorem inject_has {P : ℕ × ℕ} {p : ℕ → Words.Pair} (h : Has P p) (k l : BitVec 32) (k' l' : ℕ) (hk : k.toNat = k') (hl : l.toNat = l') :
    Has (inject k' l' P) (fun i => Words.inject k l (p i)) := by
  subst hk hl
  unfold inject
  rw [const_enc, const_enc, h.1, h.2]
  exact ⟨sum_has _ fun _ => k, sum_has _ fun _ => l⟩

theorem even_has {P : ℕ × ℕ} {p : ℕ → Words.Pair} (h : Has P p) : Has (even P) (fun i => Words.even (p i)) :=
  rnd_has (rnd_has (rnd_has (rnd_has h 13 19 13 rfl rfl) 15 17 15 rfl rfl) 26 6 26 rfl rfl) 6 26 6 rfl rfl

theorem odd_has {P : ℕ × ℕ} {p : ℕ → Words.Pair} (h : Has P p) : Has (odd P) (fun i => Words.odd (p i)) :=
  rnd_has (rnd_has (rnd_has (rnd_has h 17 15 17 rfl rfl) 29 3 29 rfl rfl) 16 16 16 rfl rfl) 24 8 24 rfl rfl

theorem cipher_has (g : ℕ) (hg : g < 192) : Has (cipher g) (fun j => Words.cipher (BitVec.ofNat 32 (g * 2048 + j))) := by
  have h : Has (0, places 11 + (g * 2048 + 42) * ones 2048) (fun j => ((0 : BitVec 32), BitVec.ofNat 32 (g * 2048 + j) + 42)) := by
    constructor
    · exact ((const_enc 0 2048).symm.trans (Nat.zero_mul _)).symm
    · show places 11 + (g * 2048 + 42) * ones 2048 = _
      rw [places_enc, const_enc, show 2 ^ 11 = 2048 from rfl, enc_add]
      refine enc_congr fun j hj => ?_
      show j + (g * 2048 + 42) = (BitVec.ofNat 32 (g * 2048 + j) + 42#32).toNat
      rw [BitVec.toNat_add, BitVec.toNat_ofNat, BitVec.toNat_ofNat]
      omega
  exact inject_has (even_has (inject_has (odd_has (inject_has (even_has (inject_has (odd_has (inject_has (even_has h)
    42 466689009 42 466689009 rfl rfl)) 466689008 2 466689008 2 rfl rfl)) 0 45 0 45 rfl rfl)) 42 466689012 42 466689012 rfl rfl))
    466689008 5 466689008 5 rfl rfl

/-- The fraction of the uniform number drawn at position `j` of row `g`, in units of `2^-23`. -/
def fractionAt (g j : ℕ) : ℕ := (Words.word (BitVec.ofNat 32 (g * 2048 + j))).toNat / 2 ^ 9

theorem fractionAt_lt (g j : ℕ) : fractionAt g j < 2 ^ 23 := by
  unfold fractionAt
  have := word_lt (Words.word (BitVec.ofNat 32 (g * 2048 + j)))
  omega

theorem fraction_enc (g : ℕ) (hg : g < 192) : fraction g = enc 2048 (fractionAt g) := by
  have h := cipher_has g hg
  unfold fraction
  rw [h.1, h.2, xor_enc _ _ _ (fun i _ => lt_trans (word_lt _) (by norm_num)) fun i _ => lt_trans (word_lt _) (by norm_num),
    enc_congr (g := fun j => (Words.word (BitVec.ofNat 32 (g * 2048 + j))).toNat) fun j _ => (BitVec.toNat_xor _ _).symm,
    pick_enc 9 23 (by norm_num) _ fun i _ => lt_trans (word_lt _) (by norm_num)]
  exact enc_congr fun j _ => Nat.mod_eq_of_lt (fractionAt_lt g j)

/-- `count` counts the positions whose `2^23` less the fraction is at most the cut of their distance. -/
theorem count_eq (g : ℕ) (hg : g < 192) (t : ℕ) :
    count g t = (Finset.univ.filter fun j : Fin 2048 => 2 ^ 23 - fractionAt g j ≤ cut t (dist (g % 16) (j / 128))).card := by
  unfold count
  rw [fraction_enc g hg, blocks_enc, show 128 * 16 = 2048 from rfl, enc_add,
    pick_enc 32 1 (by norm_num) _ fun i _ => by have := fractionAt_lt g i; omega,
    enc_congr (g := fun j => if 2 ^ 23 - fractionAt g j ≤ cut t (dist (g % 16) (j / 128)) then 1 else 0) fun j _ => by
      have := fractionAt_lt g j
      generalize cut t (dist (g % 16) (j / 128)) = c
      split <;> omega,
    enc_mod, Finset.card_filter, ← Fin.sum_univ_eq_sum_range (fun j => if 2 ^ 23 - fractionAt g j ≤ cut t (dist (g % 16) (j / 128)) then 1 else 0)]
  refine Nat.mod_eq_of_lt (lt_of_le_of_lt (Finset.sum_le_card_nsmul _ _ 1 fun j _ => by split <;> omega) ?_)
  simp

end Cert.Packed
-- ==== Proof.Scores.lean ====
/- The scores drawn are real numbers, and in every row the 256th and the 257th least lie further apart than the row's width divided by
   2^44. A score is at most `-t / 2^20` exactly when `2^23` less its fraction is at most a whole number, the cut; so counting
   whole numbers (`Packed`) places the 256th least score of a row up to `-t / 2^20` and the 257th beyond `-(t - 1) / 2^20`. -/
module

public import proofs.«01_k».proof.Proof.Lanes
public import proofs.«01_k».proof.Proof.Ranked

@[expose] public section

noncomputable section

namespace Cert.Scores

open Idealize.ShloMosaic Cert.Packed

/-- The counts of all rows, by evaluation. -/
theorem parts_all : ∀ g < 192, parts g = true := by decide +kernel

/-- The word's upper 23 bits as the fraction of a number from 1 below 2. -/
theorem fraction_bits (x : BitVec 32) :
    (Ideal.ofBits .f32 ((x >>> (9#32)) ||| 1065353216#32) : EReal) = ((1 + (x.toNat / 2 ^ 9 : ℕ) / 2 ^ 23 : ℝ) : EReal) := by
  have hx : x.toNat / 2 ^ 9 < 2 ^ 23 := by have := word_lt x; omega
  have e : ((x >>> (9#32)) ||| 1065353216#32).toNat = 127 * 2 ^ 23 + x.toNat / 2 ^ 9 := by
    rw [BitVec.toNat_or, BitVec.ushiftRight_eq', BitVec.toNat_ushiftRight, Nat.shiftRight_eq_div_pow, Nat.or_comm]
    exact (Nat.shiftLeft_add_eq_or_of_lt hx 127).symm
  show Ideal.ieee 8 23 ((x >>> (9#32)) ||| 1065353216#32) = _
  generalize (x >>> (9#32)) ||| 1065353216#32 = y at e
  generalize x.toNat / 2 ^ 9 = n at *
  have h1 : (y.extractLsb' (8 + 23) 1 == 1#1) = false := by
    rw [beq_eq_false_iff_ne]
    intro h
    have h' := congrArg BitVec.toNat h
    rw [BitVec.extractLsb'_toNat, Nat.shiftRight_eq_div_pow, e] at h'
    simp at h'
    omega
  have h2 : (y.extractLsb' 23 8).toNat = 127 := by
    rw [BitVec.extractLsb'_toNat, Nat.shiftRight_eq_div_pow, e]
    omega
  have h3 : (y.extractLsb' 0 23).toNat = n := by
    rw [BitVec.extractLsb'_toNat, Nat.shiftRight_eq_div_pow, e]
    omega
  unfold Ideal.ieee
  simp only [h1, h2, h3]
  rw [if_neg (by norm_num), if_neg (by norm_num)]
  refine congrArg Real.toEReal ?_
  push_cast
  norm_num
  ring

/-- The score at distance `d` of a number drawn that lies `m / 2^23` below one. -/
def real (d m : ℕ) : ℝ := d - 3 * Real.exp (-(Real.log (m / 2 ^ 23)) / 2)

theorem score_eq (d : ℕ) (x : BitVec 32) : Words.score ((d : ℝ) : EReal) x = (real d (2 ^ 23 - x.toNat / 2 ^ 9) : EReal) := by
  have hx : x.toNat / 2 ^ 9 < 2 ^ 23 := by have := word_lt x; omega
  unfold Words.score real
  rw [fraction_bits]
  generalize x.toNat / 2 ^ 9 = n at hx ⊢
  have e1 : (1 : EReal) + -(((1 + (n : ℝ) / 2 ^ 23 : ℝ) : EReal) - 1) = (((2 ^ 23 - n : ℕ) / 2 ^ 23 : ℝ) : EReal) := by
    rw [← EReal.coe_one, ← EReal.coe_sub, ← EReal.coe_neg, ← EReal.coe_add, Nat.cast_sub hx.le]
    congr 1
    push_cast
    field_simp
    ring
  have hp : (0 : ℝ) < (2 ^ 23 - n : ℕ) / 2 ^ 23 := div_pos (Nat.cast_pos.mpr (by omega)) (by positivity)
  unfold Ideal.log1p
  rw [e1]
  generalize ((2 ^ 23 - n : ℕ) / 2 ^ 23 : ℝ) = y at hp ⊢
  rw [show Ideal.log ((y : ℝ) : EReal) = (Real.log y : EReal) from if_neg (not_le.mpr hp), ← EReal.coe_neg,
    show (2 : EReal) = ((2 : ℝ) : EReal) from rfl, show (3 : EReal) = ((3 : ℝ) : EReal) from rfl, ← EReal.coe_div,
    show Ideal.exp ((-Real.log y / 2 : ℝ) : EReal) = (Real.exp (-Real.log y / 2) : EReal) from rfl, ← EReal.coe_mul, ← EReal.coe_sub]

theorem exp_sq (m : ℕ) (hm : 0 < m) : Real.exp (-(Real.log (m / 2 ^ 23)) / 2) ^ 2 * m = 2 ^ 23 := by
  have hm' : (0 : ℝ) < m := Nat.cast_pos.mpr hm
  rw [pow_two, ← Real.exp_add, show -(Real.log (m / 2 ^ 23)) / 2 + -(Real.log (m / 2 ^ 23)) / 2 = -(Real.log ((m : ℝ) / 2 ^ 23)) by ring,
    Real.exp_neg, Real.exp_log (by positivity)]
  field_simp

/-- Comparing a score with `-t / 2^20` by whole numbers. -/
theorem real_le_iff (d m t : ℕ) (hm : 0 < m) (ht : 0 < t) : real d m ≤ -((t : ℝ) / 2 ^ 20) ↔ m ≤ cut t d := by
  have h := exp_sq m hm
  unfold real cut
  rw [Nat.le_div_iff_mul_le (by positivity)]
  have he := Real.exp_pos (-(Real.log ((m : ℝ) / 2 ^ 23)) / 2)
  generalize Real.exp (-(Real.log ((m : ℝ) / 2 ^ 23)) / 2) = e at h he ⊢
  have hm' : (0 : ℝ) < m := Nat.cast_pos.mpr hm
  have s1 : (d : ℝ) - 3 * e ≤ -((t : ℝ) / 2 ^ 20) ↔ (d : ℝ) * 2 ^ 20 + t ≤ 3 * e * 2 ^ 20 := by
    constructor <;> intro g <;> nlinarith [div_mul_cancel₀ (t : ℝ) (show (2 : ℝ) ^ 20 ≠ 0 by positivity)]
  have s2 : (d : ℝ) * 2 ^ 20 + t ≤ 3 * e * 2 ^ 20 ↔ ((d : ℝ) * 2 ^ 20 + t) ^ 2 ≤ (3 * e * 2 ^ 20) ^ 2 :=
    (pow_le_pow_iff_left₀ (by positivity) (by positivity) two_ne_zero).symm
  have s3 : ((d : ℝ) * 2 ^ 20 + t) ^ 2 ≤ (3 * e * 2 ^ 20) ^ 2 ↔ (m : ℝ) * ((d : ℝ) * 2 ^ 20 + t) ^ 2 ≤ 9 * 2 ^ 23 * 2 ^ 40 := by
    rw [← mul_le_mul_iff_right₀ hm', show (m : ℝ) * (3 * e * 2 ^ 20) ^ 2 = 9 * (e ^ 2 * m) * 2 ^ 40 by ring, h]
  rw [s1, s2, s3]
  exact_mod_cast Iff.rfl

/-- The least and the greatest a score can be. -/
theorem real_bounds (d m : ℕ) (hm : 0 < m) (hd : d < 16) : -(2 ^ 13 + 2 ^ 12) ≤ real d m ∧ real d m ≤ 15 := by
  have h := exp_sq m hm
  unfold real
  have he := Real.exp_pos (-(Real.log ((m : ℝ) / 2 ^ 23)) / 2)
  generalize Real.exp (-(Real.log ((m : ℝ) / 2 ^ 23)) / 2) = e at h he ⊢
  have hm' : (1 : ℝ) ≤ m := Nat.one_le_cast.mpr hm
  have hd' : (d : ℝ) ≤ 15 := by exact_mod_cast (by omega : d ≤ 15)
  have hd0 : (0 : ℝ) ≤ d := Nat.cast_nonneg d
  have hs : e ^ 2 ≤ (2 ^ 12) ^ 2 := by nlinarith [mul_le_mul_of_nonneg_left hm' (sq_nonneg e)]
  have hb : e ≤ 2 ^ 12 := (pow_le_pow_iff_left₀ he.le (by positivity) two_ne_zero).mp hs
  constructor <;> linarith

/-- How far the number drawn at a position lies below one, in units of `2^-23`. -/
def below (g : Fin 192) (j : Fin 2048) : ℕ := 2 ^ 23 - fractionAt g j

theorem below_pos (g : Fin 192) (j : Fin 2048) : 0 < below g j := Nat.sub_pos_of_lt (fractionAt_lt g j)

theorem scoreAt_eq (g : Fin 192) (j : Fin 2048) : Words.scoreAt g j = (real (dist (g % 16) (j / 128)) (below g j) : EReal) := score_eq _ _

theorem score_real (g : Fin 192) (j : Fin 2048) : ∃ a : ℝ, Words.scoreAt g j = (a : EReal) := ⟨_, scoreAt_eq g j⟩

theorem dist_lt (g : Fin 192) (j : Fin 2048) : dist (g % 16) (j / 128) < 16 := by
  unfold Packed.dist
  split <;> omega

theorem upTo_eq (g : Fin 192) (a : Fin 2048 → ℝ) (ha : ∀ j, Words.scoreAt g j = (a j : EReal)) (t : ℕ) (ht : 0 < t) :
    Select.upTo a (-((t : ℝ) / 2 ^ 20)) = count g t := by
  rw [count_eq g g.isLt t]
  refine congrArg Finset.card (Finset.filter_congr fun j _ => ?_)
  rw [← EReal.coe_eq_coe_iff.mp ((scoreAt_eq g j).symm.trans (ha j))]
  exact real_le_iff _ _ t (below_pos g j) ht

/-- In every row the 256th and the 257th least score are further apart than the row's width divided by 2^44. -/
theorem gap (g : Fin 192) (a : Fin 2048 → ℝ) (ha : ∀ j, Words.scoreAt g j = (a j : EReal)) :
    (Select.greatest a - Select.least a) * (2⁻¹) ^ 44
      < a (Ranked.order (fun j => -(Words.scoreAt g j)) 256) - a (Ranked.order (fun j => -(Words.scoreAt g j)) 255) := by
  have hr := Ranked.order_rising a (fun j => -(Words.scoreAt g j)) fun j => congrArg Neg.neg (ha j)
  generalize Ranked.order (fun j => -(Words.scoreAt g j)) = π at hr
  have hp := parts_all g g.isLt
  unfold parts at hp
  generalize between.getD g 0 = t at hp
  simp only [Bool.and_eq_true, Nat.ble_eq] at hp
  obtain ⟨⟨h1, h2⟩, h3⟩ := hp
  rw [← upTo_eq g a ha t (by omega)] at h1
  rw [← upTo_eq g a ha (t - 1) (by omega), Nat.cast_sub (by omega), Nat.cast_one] at h2
  have g1 := (Select.upTo_iff hr _).mp h1
  have g2 : ¬ a (π 256) ≤ _ := fun h => absurd ((Select.lt_upTo_iff hr 256 _).mpr h) (not_lt.mpr h2)
  have hb : ∀ j, -(2 ^ 13 + 2 ^ 12) ≤ a j ∧ a j ≤ 15 := fun j => by
    rw [← EReal.coe_eq_coe_iff.mp ((scoreAt_eq g j).symm.trans (ha j))]
    exact real_bounds _ _ (below_pos g j) (dist_lt g j)
  have hl : -(2 ^ 13 + 2 ^ 12) ≤ Select.least a := Finset.le_inf' _ _ fun j _ => (hb j).1
  have hg : Select.greatest a ≤ 15 := Finset.sup'_le _ _ fun j _ => (hb j).2
  norm_num at g1 g2 hl ⊢
  linarith

end Cert.Scores
-- ==== Proof.Value.lean ====
/- The kernel's result is the reference's: both attentions read at an index, and equal there under the precondition. -/
module

public import proofs.«01_k».proof.Proof.KernelIdeal.EndValue
public import proofs.«01_k».proof.Proof.KernelIdeal.BisectValue
public import proofs.«01_k».proof.Proof.KernelIdeal.DrawValue
public import proofs.«01_k».proof.Proof.ReferenceIdeal.EndValue
public import proofs.«01_k».proof.Proof.ReferenceIdeal.Chosen
public import proofs.«01_k».proof.Proof.Premise
public import proofs.«01_k».proof.Proof.Scores

@[expose] public section

set_option maxRecDepth 16384

noncomputable section

namespace Cert.Value

open Idealize.ShloMosaic Idealize.ShloMosaic.TcCoe Idealize.SL.Sem Cert.KernelIdeal Cert.KernelIdeal.Gen
open Cert

variable [Cert.Pre_premise.Facts] (m : (ℓ : Loc nD τ sig) → Buf (Elt Idealize.ShloMosaic.Ideal) ℓ) (ρ : Dev nD → PrngReg)

/-- The output product of two attentions that agree on a row. -/
theorem result_congr (A A' : Fin 12 → Fin 2048 → Fin 64 → EReal) (Wo : Fin 768 → Fin 768 → EReal) (r : Fin 2048) (b : Fin 768)
    (hA : ∀ h d, A h r d = A' h r d) : Spec.result A Wo r b = Spec.result A' Wo r b := by
  unfold Spec.result
  exact Finset.sum_congr rfl fun k _ => by rw [hA]

/-- A position's score is within the bound the bisection ends with exactly when it is one of the 256 least. -/
theorem within_iff (h : Fin 12) (w : Fin 16) (j : Fin 2048) :
    Hand.drawnS (ix2 ⟨h.val * 16 + w.val, by omega⟩ j) ≤ Hand.drawnBound (ix2 ⟨h.val * 16 + w.val, by omega⟩ 0)
      ↔ ∃ k : Fin 256, Ranked.order (ReferenceIdeal.Hand.negated h w) (k.castLE (by decide)) = j := by
  choose a ha using fun j => Scores.score_real ⟨h.val * 16 + w.val, by omega⟩ j
  have hs : ∀ j, Hand.drawnS (ix2 ⟨h.val * 16 + w.val, by omega⟩ j) = (a j : EReal) := fun j => (Hand.scores_at _ j).trans (ha j)
  have hr := Ranked.order_rising a (ReferenceIdeal.Hand.negated h w) fun j => congrArg Neg.neg (ha j)
  have hb := (Hand.bisect_at Hand.drawnS ⟨h.val * 16 + w.val, by omega⟩ a hs 44).2
  rw [show Hand.drawnBound (ix2 ⟨h.val * 16 + w.val, by omega⟩ 0) = _ from hb, hs j, EReal.coe_le_coe_iff]
  have h0 : (Select.least a, Select.greatest a).1 ≤ a (Ranked.order (ReferenceIdeal.Hand.negated h w) 255) :=
    Select.least_le a _
  have h1 : a (Ranked.order (ReferenceIdeal.Hand.negated h w) 255) ≤ (Select.least a, Select.greatest a).2 :=
    Select.le_greatest a _
  have hg := Scores.gap ⟨h.val * 16 + w.val, by omega⟩ a ha
  generalize 44 = n at hg ⊢
  exact Select.within_iff hr (Select.least a, Select.greatest a) h0 h1 n hg j

/-- At every index the kernel's masked attention over all keys is the reference's attention over the kept keys. -/
theorem at_index (c : Dev nD)
    (H : Premise.Holds (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))) (z : Fin 1) (r : Fin 2048) (b : Fin 768) :
    (Hand.W7 m ρ c (Proc.devRef .tc main_v10) : Vec Idealize.ShloMosaic.Ideal S1x2048x768 .f32) (ix3 z r b)
      = ReferenceIdeal.Read.val_main_v256 (F := Idealize.ShloMosaic.Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix3 z r b) := by
  have h1 := Premise.mask_false H
  choose κ hi hκ hc using ReferenceIdeal.Hand.chosen (m ((c : Thread nD τ).loc main_arg1)) h1
  have h4 := Premise.qkvBias_zero H
  have h6 := Premise.outBias_zero H
  have hX : ∀ r k, ∃ a : ℝ, Hand.specX m c r k = (a : EReal) := fun r k => Premise.x_real H (ix3 0 r k)
  have hW : ∀ (s : Fin 2) (k j : Fin 768), ∃ a : ℝ, Hand.specW m c k (Spec.column s j) = (a : EReal) := Premise.weight_real H
  have hP : ∀ h r j, ∃ a : ℝ, Hand.specP m c h r j = (a : EReal) := fun h r j => Premise.pos_real H (ix3 h r j)
  refine (Hand.end_at m ρ c z r b).trans (Eq.trans ?_ (ReferenceIdeal.Hand.end_at _ _ _ _ _ _ _ _ hκ h1 h4 h6 z r b).symm)
  refine result_congr _ _ _ r b fun h d => ?_
  refine Spec.attn_eq hX hW hP _ (hi h _) _ (fun j => ?_) _ _ _ _
    (ReferenceIdeal.Hand.top_real _ _ _ _ _ _ hκ h1 h4 _ _ _ fun r j => ?_)
  · have k := (hc h ⟨r.val / 128, by omega⟩ j).trans (within_iff h ⟨r.val / 128, by omega⟩ j).symm
    by_cases g : ∃ y, κ h ⟨r.val / 128, by omega⟩ y = j
    · exact (if_pos (k.mp g)).trans (if_pos g).symm
    · exact (if_neg fun g' => g (k.mpr g')).trans (if_neg g).symm
  · obtain ⟨l, hl, _⟩ := Spec.logit_real hX hW hP h r j
    exact ⟨l, hl⟩

end Cert.Value
-- ==== Proof.lean ====
/- The proof of the certificate's claims: the frames of the three programs, the named constant, and the equality of the kernel's result
   with the reference's over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Value

@[expose] public section

noncomputable section

namespace Cert.Proof

open Idealize.ShloMosaic Idealize.SL.Sem

/-- The mask's constant is named: at the extended reals it is `−∞`. -/
theorem preserves : Cert.preserves_Kernel_KernelIdeal :=
  IdealRules.named_const.statement Cert.KernelIdeal.κ "mask" .f32 0xF149F2CA#32 ⊥ rfl

/-- The reference ends with its arguments unchanged; it has no semaphore. -/
theorem referenceFrame : Cert.quiescent_ReferenceIdeal (hReferenceIdeal := Cert.ReferenceIdeal.Gen.facts) :=
  fun m ρ _ => (θ_run Cert.ReferenceIdeal.defs _ _).mono (fun r h => ⟨fun c => (h c).2, Idealize.ShloMosaic.sem_eq_zero_of_no_sems (by decide) r.2⟩)
    (Cert.ReferenceIdeal.Value.run m ρ)

/-- The kernel ends with the reference's result. -/
theorem algebraic : Cert.algebraic_KernelIdeal_ReferenceIdeal_pre_premise (hKernelIdeal := Cert.KernelIdeal.Gen.facts)
    (hReferenceIdeal := Cert.ReferenceIdeal.Gen.facts) (hPre_premise := Cert.Premise.facts) := by
  intro m g m' g' hpre hargs
  letI := Cert.Premise.facts
  refine ⟨fun c => Cert.KernelIdeal.Hand.W7 m g c (Proc.devRef .tc Cert.KernelIdeal.main_v10), ?_, ?_⟩
  · exact (θ_run Cert.KernelIdeal.defs _ _).mono (fun r h => h.1) (Cert.KernelIdeal.Hand.run_end m g)
  · refine (θ_run Cert.ReferenceIdeal.defs _ _).mono (fun r h c => ⟨(h c).1.trans ?_, (h c).2⟩) (Cert.ReferenceIdeal.Value.run m' g')
    obtain ⟨h0, h1, h2, h3, h4, h5, h6⟩ := hargs c
    refine (Cert.ReferenceIdeal.Read.val_main_v256_eq (StableHlo.launchContents m' c)).trans ?_
    rw [show StableHlo.launchContents m' c (Proc.devRef .tc Cert.ReferenceIdeal.main_arg0) = _ from h0,
      show StableHlo.launchContents m' c (Proc.devRef .tc Cert.ReferenceIdeal.main_arg1) = _ from h1,
      show StableHlo.launchContents m' c (Proc.devRef .tc Cert.ReferenceIdeal.main_arg2) = _ from h2,
      show StableHlo.launchContents m' c (Proc.devRef .tc Cert.ReferenceIdeal.main_arg3) = _ from h3,
      show StableHlo.launchContents m' c (Proc.devRef .tc Cert.ReferenceIdeal.main_arg4) = _ from h4,
      show StableHlo.launchContents m' c (Proc.devRef .tc Cert.ReferenceIdeal.main_arg5) = _ from h5,
      show StableHlo.launchContents m' c (Proc.devRef .tc Cert.ReferenceIdeal.main_arg6) = _ from h6]
    funext i
    idx_vars i
    exact (Cert.Value.at_index m g c (hpre c) _ _ _).symm

theorem claim : Cert.Claim :=
  ⟨Cert.Kernel.Gen.facts, Cert.KernelIdeal.Gen.facts, Cert.ReferenceIdeal.Gen.facts, Cert.Premise.facts,
    fun m ρ _ => Cert.Kernel.Hand.frame m ρ, fun m ρ _ => Cert.KernelIdeal.Hand.frame m ρ, fun m ρ _ => Cert.KernelIdeal.Hand.frame m ρ,
    referenceFrame, fun m ρ _ => referenceFrame m ρ trivial, preserves, algebraic⟩

end Cert.Proof

end
